-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2, 2] ![[2], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S_ : Shape := ⟨0, ![]⟩
abbrev S1 : Shape := ⟨1, ![1]⟩
abbrev S2x2048 : Shape := ⟨2, ![2, 2048]⟩
abbrev S512x2048 : Shape := ⟨2, ![512, 2048]⟩
abbrev S7x2x2048 : Shape := ⟨3, ![7, 2, 2048]⟩
abbrev S7 : Shape := ⟨1, ![7]⟩
abbrev S512 : Shape := ⟨1, ![512]⟩
abbrev S512x1 : Shape := ⟨2, ![512, 1]⟩
abbrev S1x2048 : Shape := ⟨2, ![1, 2048]⟩
abbrev S1x2x2048 : Shape := ⟨3, ![1, 2, 2048]⟩

abbrev nBuf : Space → Nat
  | .hbm => 19
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048, .f32⟩
  | .local _ .vmem, ⟨5, _⟩ => ⟨S2x2048, .f32⟩
  | .local _ .vmem, ⟨6, _⟩ => ⟨S7x2x2048, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 8
abbrev τ : Topo := Topo.v7x

variable {F : FTy → Type} [FloatOps F]

abbrev grid0 : Pipeline.Grid := ⟨1, ![2], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_15 : BitVec 32 := 0#32
  let v24 : BitVec 1 := Scalar.cmpi .ne v23 c0_i32_15
  v24

def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v72 : BitVec 32 := Scalar.muli v2 c4_i32_35
  let v73 : BitVec 32 := Scalar.addi c0_i32_36 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v74 : BitVec 32 := Scalar.muli v5 c2_i32_37
  let v75 : BitVec 32 := Scalar.addi v73 v74
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v76 : BitVec 32 := Scalar.muli v9 c1_i32_38
  let v77 : BitVec 32 := Scalar.addi v75 v76
  v77.toNat
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v78 : BitVec 32 := Scalar.muli v2 c4_i32_40
  let v79 : BitVec 32 := Scalar.addi c0_i32_41 v78
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_42 : BitVec 32 := 2#32
  let v80 : BitVec 32 := Scalar.muli v10 c2_i32_42
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v82 : BitVec 32 := Scalar.muli v8 c1_i32_43
  let v83 : BitVec 32 := Scalar.addi v81 v82
  v83.toNat
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v84 : BitVec 32 := Scalar.muli v2 c4_i32_45
  let v85 : BitVec 32 := Scalar.addi c0_i32_46 v84
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_47 : BitVec 32 := 2#32
  let v86 : BitVec 32 := Scalar.muli v11 c2_i32_47
  let v87 : BitVec 32 := Scalar.addi v85 v86
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_48 : BitVec 32 := 1#32
  let v88 : BitVec 32 := Scalar.muli v12 c1_i32_48
  let v89 : BitVec 32 := Scalar.addi v87 v88
  v89.toNat
def k0_dev4 (d0 : Dev nD) : Nat :=
  let c0_i32_51 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_50 : BitVec 32 := 4#32
  let v90 : BitVec 32 := Scalar.muli v13 c4_i32_50
  let v91 : BitVec 32 := Scalar.addi c0_i32_51 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v92 : BitVec 32 := Scalar.muli v5 c2_i32_52
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v94 : BitVec 32 := Scalar.muli v8 c1_i32_53
  let v95 : BitVec 32 := Scalar.addi v93 v94
  v95.toNat
def k0_dev5 (d0 : Dev nD) : Nat :=
  let c0_i32_56 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_55 : BitVec 32 := 4#32
  let v96 : BitVec 32 := Scalar.muli v14 c4_i32_55
  let v97 : BitVec 32 := Scalar.addi c0_i32_56 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v98 : BitVec 32 := Scalar.muli v5 c2_i32_57
  let v99 : BitVec 32 := Scalar.addi v97 v98
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_58 : BitVec 32 := 1#32
  let v100 : BitVec 32 := Scalar.muli v15 c1_i32_58
  let v101 : BitVec 32 := Scalar.addi v99 v100
  v101.toNat
def k0_dev6 (d0 : Dev nD) : Nat :=
  let c0_i32_61 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_60 : BitVec 32 := 4#32
  let v102 : BitVec 32 := Scalar.muli v16 c4_i32_60
  let v103 : BitVec 32 := Scalar.addi c0_i32_61 v102
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_62 : BitVec 32 := 2#32
  let v104 : BitVec 32 := Scalar.muli v17 c2_i32_62
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v106 : BitVec 32 := Scalar.muli v8 c1_i32_63
  let v107 : BitVec 32 := Scalar.addi v105 v106
  v107.toNat
def k0_dev7 (d0 : Dev nD) : Nat :=
  let c0_i32_66 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_65 : BitVec 32 := 4#32
  let v108 : BitVec 32 := Scalar.muli v18 c4_i32_65
  let v109 : BitVec 32 := Scalar.addi c0_i32_66 v108
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_67 : BitVec 32 := 2#32
  let v110 : BitVec 32 := Scalar.muli v19 c2_i32_67
  let v111 : BitVec 32 := Scalar.addi v109 v110
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_68 : BitVec 32 := 1#32
  let v112 : BitVec 32 := Scalar.muli v20 c1_i32_68
  let v113 : BitVec 32 := Scalar.addi v111 v112
  v113.toNat
def k0_cond2 (i : grid0.Coords) : BitVec 1 :=
  let arg0 : BitVec 32 := BitVec.ofNat 32 (i 0).val
  let c1_i32_29 : BitVec 32 := 1#32
  let v65 : BitVec 1 := Scalar.cmpi .eq arg0 c1_i32_29
  let v66 : BitVec 32 := Scalar.extui v65
  let c0_i32_30 : BitVec 32 := 0#32
  let v67 : BitVec 1 := Scalar.cmpi .ne v66 c0_i32_30
  v67

def k0_dev8 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v68 : BitVec 32 := Scalar.muli v2 c4_i32_34
  let v69 : BitVec 32 := Scalar.addi c0_i32_35 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v70 : BitVec 32 := Scalar.muli v5 c2_i32_36
  let v71 : BitVec 32 := Scalar.addi v69 v70
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v72 : BitVec 32 := Scalar.muli v9 c1_i32_37
  let v73 : BitVec 32 := Scalar.addi v71 v72
  v73.toNat
def k0_dev9 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v80 : BitVec 32 := Scalar.muli v2 c4_i32_43
  let v81 : BitVec 32 := Scalar.addi c0_i32_44 v80
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_45 : BitVec 32 := 2#32
  let v82 : BitVec 32 := Scalar.muli v10 c2_i32_45
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v84 : BitVec 32 := Scalar.muli v8 c1_i32_46
  let v85 : BitVec 32 := Scalar.addi v83 v84
  v85.toNat
def k0_dev10 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v92 : BitVec 32 := Scalar.muli v2 c4_i32_52
  let v93 : BitVec 32 := Scalar.addi c0_i32_53 v92
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_54 : BitVec 32 := 2#32
  let v94 : BitVec 32 := Scalar.muli v11 c2_i32_54
  let v95 : BitVec 32 := Scalar.addi v93 v94
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_55 : BitVec 32 := 1#32
  let v96 : BitVec 32 := Scalar.muli v12 c1_i32_55
  let v97 : BitVec 32 := Scalar.addi v95 v96
  v97.toNat
def k0_dev11 (d0 : Dev nD) : Nat :=
  let c0_i32_61 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_60 : BitVec 32 := 4#32
  let v104 : BitVec 32 := Scalar.muli v13 c4_i32_60
  let v105 : BitVec 32 := Scalar.addi c0_i32_61 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v106 : BitVec 32 := Scalar.muli v5 c2_i32_62
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v108 : BitVec 32 := Scalar.muli v8 c1_i32_63
  let v109 : BitVec 32 := Scalar.addi v107 v108
  v109.toNat
def k0_dev12 (d0 : Dev nD) : Nat :=
  let c0_i32_70 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_69 : BitVec 32 := 4#32
  let v116 : BitVec 32 := Scalar.muli v14 c4_i32_69
  let v117 : BitVec 32 := Scalar.addi c0_i32_70 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v118 : BitVec 32 := Scalar.muli v5 c2_i32_71
  let v119 : BitVec 32 := Scalar.addi v117 v118
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_72 : BitVec 32 := 1#32
  let v120 : BitVec 32 := Scalar.muli v15 c1_i32_72
  let v121 : BitVec 32 := Scalar.addi v119 v120
  v121.toNat
def k0_dev13 (d0 : Dev nD) : Nat :=
  let c0_i32_78 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_77 : BitVec 32 := 4#32
  let v128 : BitVec 32 := Scalar.muli v16 c4_i32_77
  let v129 : BitVec 32 := Scalar.addi c0_i32_78 v128
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_79 : BitVec 32 := 2#32
  let v130 : BitVec 32 := Scalar.muli v17 c2_i32_79
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v132 : BitVec 32 := Scalar.muli v8 c1_i32_80
  let v133 : BitVec 32 := Scalar.addi v131 v132
  v133.toNat
def k0_dev14 (d0 : Dev nD) : Nat :=
  let c0_i32_86 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_85 : BitVec 32 := 4#32
  let v140 : BitVec 32 := Scalar.muli v18 c4_i32_85
  let v141 : BitVec 32 := Scalar.addi c0_i32_86 v140
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_87 : BitVec 32 := 2#32
  let v142 : BitVec 32 := Scalar.muli v19 c2_i32_87
  let v143 : BitVec 32 := Scalar.addi v141 v142
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_88 : BitVec 32 := 1#32
  let v144 : BitVec 32 := Scalar.muli v20 c1_i32_88
  let v145 : BitVec 32 := Scalar.addi v143 v144
  v145.toNat
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1, .bf16⟩
  | .hbm, ⟨11, _⟩ => ⟨S_, .i32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .bf16⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .bf16⟩
  | .hbm, ⟨35, _⟩ => ⟨S8192x1, .bf16⟩
  | .hbm, ⟨36, _⟩ => ⟨S8192x1, .bf16⟩
  | .hbm, ⟨37, _⟩ => ⟨S_, .bf16⟩
  | .hbm, ⟨38, _⟩ => ⟨S8192x1, .bf16⟩
  | .hbm, ⟨39, _⟩ => ⟨S8192x1, .bf16⟩
  | .hbm, ⟨40, _⟩ => ⟨S8192x1, .bf16⟩
  | .hbm, ⟨41, _⟩ => ⟨S_, .bf16⟩
  | .hbm, ⟨42, _⟩ => ⟨S8192x1, .bf16⟩
  | .hbm, ⟨43, _⟩ => ⟨S8192x1, .bf16⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S8192x2048, .bf16⟩
  | .hbm, ⟨48, _⟩ => ⟨S8192x2048, .bf16⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S2048, .bf16⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S2048, .bf16⟩
  | .hbm, ⟨57, _⟩ => ⟨S1x2048, .bf16⟩
  | .hbm, ⟨58, _⟩ => ⟨S1x2048, .bf16⟩
  | .hbm, ⟨59, _⟩ => ⟨S2x2048, .bf16⟩
  | .hbm, ⟨60, _⟩ => ⟨S2x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_1 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst_3 : Ref sig .tc := ⟨.hbm, 31, rfl⟩
abbrev main_call0_v15 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Common.lean ====
/-
# The all-reduce's protocol

Eight devices, each with seven partners: partner `s` of device `c` is the device whose number differs from `c`'s by the
exclusive or with `s + 1`. Three kinds of cell:

* the barrier cell of `c`: each of the seven partners pays one unit, and hands over its own landing slot and the news that
  its own receive cell of that slot is open;
* the receive cell `s` of `c`: partner `s`'s copy pays it, and hands over slot `s` of `c` holding the partner's sums;
* the send cell `s` of `c`: `c`'s own copy pays it, and hands back the share of `c`'s sums the copy read.

One round on each. The sums `A2 c` of every device are a parameter here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.ShareLeaves
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's tokens, and the protocol's, whose duties are numbered by the slot. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Partners -/

/-- Partner `s` of device `c`. -/
def pe (s : Fin 7) (c : Dev nD) : Dev nD :=
  ⟨c.val ^^^ (s.val + 1), by have := c.isLt; revert this; generalize c.val = v; intro h; decide +revert⟩

theorem pe_pe (s : Fin 7) (c : Dev nD) : pe s (pe s c) = c := by revert s c; decide

/-- A partner map is a permutation of the devices. -/
def peEquiv (s : Fin 7) : Dev nD ≃ Dev nD := ⟨pe s, pe s, pe_pe s, pe_pe s⟩

/-! ## Memrefs, cells -/

abbrev accM : Memref sig .tc .vmem S2x2048 .f32 := Memref.whole cc0_scratch0
abbrev commM : Memref sig .tc .vmem S7x2x2048 .f32 := Memref.whole cc0_scratch1

theorem inbS (s : Fin 7) : ∀ a, (![s.val, 0, 0] : Fin 3 → Nat) a + S1x2x2048.size a ≤ S7x2x2048.size a := by
  revert s; decide

/-- The elements of slot `s` of the landing buffer. -/
abbrev slotR (s : Fin 7) : Rect S7x2x2048 := Rect.unit (s := S7x2x2048) ![s.val, 0, 0] S1x2x2048.size (inbS s)
/-- Slot `s` of the landing buffer. -/
abbrev slotM (s : Fin 7) : Memref sig .tc .vmem S2x2048 .f32 :=
  (commM.slice (slotR s) (fun _ => rfl)).squeeze S2x2048 squeezes_S1x2x2048_S2x2048

abbrev barS : Sem sig := (SemArray.scalar (sig.barrier 0 rfl) : Sems sig S_).sem
/-- The semaphore of the copy into the partner's slot `s`, and of the copy landing in the own slot `s`. -/
def sndS (s : Fin 7) : DmaSem sig := ⟨5 + s.val, by have := s.isLt; show 5 + s.val < 19; omega⟩
def rcvS (s : Fin 7) : DmaSem sig := ⟨12 + s.val, by have := s.isLt; show 12 + s.val < 19; omega⟩

abbrev barCell (c : Dev nD) : GSem nD τ sig := ((c : Thread nD τ), .reg barS)
abbrev sendCell (s : Fin 7) (c : Dev nD) : GSem nD τ sig := ((c : Thread nD τ), .dma (sndS s))
abbrev recvCell (s : Fin 7) (c : Dev nD) : GSem nD τ sig := ((c : Thread nD τ), .dma (rcvS s))

theorem sndS_val (s : Fin 7) : (sndS s).val = 5 + s.val := rfl
theorem rcvS_val (s : Fin 7) : (rcvS s).val = 12 + s.val := rfl

/-- The elements a landed copy credits. -/
abbrev N : ℕ := (accM : Memref sig .tc .vmem S2x2048 .f32).view.dmaCredit
theorem N_pos : 0 < N := View.dmaCredit_pos _ (by decide)

/-- The eight shares of a device's sums: seven for the copies, one kept. -/
def shareOf (s : Fin 8) : PosShare TreeShare := ShareLeaves.leaf 3 fullShare s

variable (A2 : Dev nD → Vec F S2x2048 .f32)

/-- Device `c`'s sums at `f`, at a share. -/
abbrev accAt (c : Dev nD) (q : PosShare TreeShare) (f : Vec F S2x2048 .f32) : sProp 𝕄 :=
  accM.view.loc (c : Thread nD τ) ↦[accM.view.set]{q} f
/-- Device `c`'s slot `s`, at contents not chosen. -/
abbrev slotAny (s : Fin 7) (c : Dev nD) : sProp 𝕄 :=
  iprop(∃ f : Buf (Elt F) ((slotM s).view.loc (c : Thread nD τ)), (slotM s).view.loc (c : Thread nD τ) ↦[(slotM s).view.set]{fullShare} f)

/-! ## The schedule -/

/-- What partner `s` pays into `c`'s barrier cell: its slot `s`, and that its receive cell `s` is open. -/
def barPay (s : Fin 7) (c : Dev nD) : sProp 𝕄 := iprop(slotAny s (pe s c) ∗ reached ER (recvCell s (pe s c)) 0)
/-- What partner `s`'s copy pays: `c`'s slot `s` holding the partner's sums. -/
def recvPay (s : Fin 7) (c : Dev nD) : sProp 𝕄 := owns (c : Thread nD τ) (slotM s) fullShare (A2 (pe s c))
/-- What `c`'s copy hands back. -/
def sendPay (s : Fin 7) (c : Dev nD) : sProp 𝕄 := accAt c (shareOf s.castSucc) (A2 c)

/-- The slot a DMA semaphore of the protocol belongs to. -/
def slotOf (q : DmaSem sig) : Fin 7 := ⟨(q.val + 2) % 7, Nat.mod_lt _ (by decide)⟩
theorem slotOf_snd (s : Fin 7) : slotOf (sndS s) = s := by revert s; decide
theorem slotOf_rcv (s : Fin 7) : slotOf (rcvS s) = s := by revert s; decide

def rdDuties : SemLoc sig → Finset (Fin 7)
  | .reg _ => Finset.univ
  | .dma q => if 5 ≤ q.val then {0} else ∅

def rd : Rounds.Schedule (GSem nD τ sig) (Fin 7) 𝕄 where
  duties g r := if r = 0 ∧ g.1.2 = .tc then rdDuties g.2 else ∅
  unitless _ := False
  amount g _ _ := match g.2 with | .reg _ => 1 | .dma _ => N
  payload g _ d := match g.2 with
    | .reg _ => barPay d g.1.1
    | .dma q => if 12 ≤ q.val then recvPay A2 (slotOf q) g.1.1 else sendPay A2 (slotOf q) g.1.1
  amount_pos g _ _ _ := by
    rcases g with ⟨t, sm⟩
    cases sm
    · exact Nat.one_pos
    · exact N_pos

instance rd_payload_storable (g : GSem nD τ sig) (r : ℕ) (d : Fin 7) :
    BI.Storable (upEmb : UEmb _ 𝕄) ((rd (F := F) A2).payload g r d) := by
  rcases g with ⟨t, sm⟩
  cases sm with
  | reg q =>
    show BI.Storable upEmb (barPay d t.1)
    unfold barPay; infer_instance
  | dma q =>
    show BI.Storable upEmb (if 12 ≤ q.val then recvPay A2 (slotOf q) t.1 else sendPay A2 (slotOf q) t.1)
    unfold recvPay sendPay
    split <;> infer_instance

section Sched

variable (s : Fin 7) (c : Dev nD)

theorem duties_bar : (rd (F := F) A2).duties (barCell c) 0 = Finset.univ := by
  dsimp only [rd]; exact if_pos ⟨rfl, rfl⟩
theorem duties_send : (rd (F := F) A2).duties (sendCell s c) 0 = {0} := by
  dsimp only [rd]; rw [if_pos ⟨rfl, rfl⟩]; exact if_pos (by rw [sndS_val]; omega)
theorem duties_recv : (rd (F := F) A2).duties (recvCell s c) 0 = {0} := by
  dsimp only [rd]; rw [if_pos ⟨rfl, rfl⟩]; exact if_pos (by rw [rcvS_val]; omega)
theorem duties_later (g : GSem nD τ sig) : ∀ r, 0 + 1 ≤ r → (rd (F := F) A2).duties g r = ∅ :=
  fun r hr => by dsimp only [rd]; exact if_neg (fun h => by omega)

theorem amount_bar (d : Fin 7) : (rd (F := F) A2).amount (barCell c) 0 d = 1 := rfl
theorem amount_send (d : Fin 7) : (rd (F := F) A2).amount (sendCell s c) 0 d = N := rfl
theorem amount_recv (d : Fin 7) : (rd (F := F) A2).amount (recvCell s c) 0 d = N := rfl

theorem expect_bar : (rd (F := F) A2).expect (barCell c) 0 = 7 := by
  unfold Schedule.expect Schedule.amountOf; rw [duties_bar]
  simp only [amount_bar]; rfl
theorem expect_send : (rd (F := F) A2).expect (sendCell s c) 0 = N := by
  unfold Schedule.expect Schedule.amountOf; rw [duties_send, Finset.sum_singleton, amount_send]
theorem expect_recv : (rd (F := F) A2).expect (recvCell s c) 0 = N := by
  unfold Schedule.expect Schedule.amountOf; rw [duties_recv, Finset.sum_singleton, amount_recv]

theorem payload_bar (d : Fin 7) : (rd (F := F) A2).payload (barCell c) 0 d = barPay d c := rfl
theorem payload_send (d : Fin 7) : (rd (F := F) A2).payload (sendCell s c) 0 d = sendPay A2 s c := by
  dsimp only [rd]; rw [if_neg (by rw [sndS_val]; have := s.isLt; omega), slotOf_snd]
theorem payload_recv (d : Fin 7) : (rd (F := F) A2).payload (recvCell s c) 0 d = recvPay A2 s c := by
  dsimp only [rd]; rw [if_pos (by rw [rcvS_val]; omega), slotOf_rcv]

theorem rest_bar : bigSep ((rd (F := F) A2).duties (barCell c) 0 \ ∅) (fun d => (rd (F := F) A2).payload (barCell c) 0 d)
    = bigSep Finset.univ fun d => (barPay d c : sProp 𝕄) := by
  rw [Finset.sdiff_empty, duties_bar]; rfl
theorem rest_send : bigSep ((rd (F := F) A2).duties (sendCell s c) 0 \ ∅) (fun d => (rd (F := F) A2).payload (sendCell s c) 0 d)
    = sendPay A2 s c := by
  rw [Finset.sdiff_empty, duties_send, bigSep_singleton, payload_send]
theorem rest_recv : bigSep ((rd (F := F) A2).duties (recvCell s c) 0 \ ∅) (fun d => (rd (F := F) A2).payload (recvCell s c) 0 d)
    = recvPay A2 s c := by
  rw [Finset.sdiff_empty, duties_recv, bigSep_singleton, payload_recv]

end Sched

/-! ## What each core owes; the levels -/

/-- What `c` still owes to its partners' receive cells once the copies below `j` are started. -/
def owedR (c : Dev nD) (j : ℕ) : CellTallies nD τ sig Unit :=
  ∑ s ∈ Finset.univ.filter (fun s : Fin 7 => j ≤ s.val), tallyAt (recvCell s (pe s c)) () N
/-- What `c` still owes to its partners' barrier cells once the signals below `j` are sent. -/
def owedB (c : Dev nD) (j : ℕ) : CellTallies nD τ sig Unit :=
  ∑ s ∈ Finset.univ.filter (fun s : Fin 7 => j ≤ s.val), tallyAt (barCell (pe s c)) () 1
/-- What `c` owes at launch. -/
def O₀ (c : Dev nD) : CellTallies nD τ sig Unit := owedR c 0 + owedB c 0

theorem filter_step (s : Fin 7) : (Finset.univ.filter fun t : Fin 7 => s.val ≤ t.val)
    = insert s (Finset.univ.filter fun t : Fin 7 => s.val + 1 ≤ t.val) := by revert s; decide
theorem filter_not_mem (s : Fin 7) : s ∉ Finset.univ.filter fun t : Fin 7 => s.val + 1 ≤ t.val := by revert s; decide
theorem filter_last : (Finset.univ.filter fun t : Fin 7 => 7 ≤ t.val) = ∅ := by decide

theorem owedR_step (s : Fin 7) (c : Dev nD) : owedR c s.val = owedR c (s.val + 1) + tallyAt (recvCell s (pe s c)) () N := by
  unfold owedR; rw [filter_step, Finset.sum_insert (filter_not_mem s), add_comm]
theorem owedB_step (s : Fin 7) (c : Dev nD) : owedB c s.val = owedB c (s.val + 1) + tallyAt (barCell (pe s c)) () 1 := by
  unfold owedB; rw [filter_step, Finset.sum_insert (filter_not_mem s), add_comm]
theorem owedR_last (c : Dev nD) : owedR c 7 = 0 := by unfold owedR; rw [filter_last, Finset.sum_empty]
theorem owedB_last (c : Dev nD) : owedB c 7 = 0 := by unfold owedB; rw [filter_last, Finset.sum_empty]

theorem sum_tally_pos {I : Type} {S : Finset I} {cell : I → GSem nD τ sig} {n : ℕ} {g : GSem nD τ sig} {u : Unit}
    (h : 0 < (∑ s ∈ S, tallyAt (cell s) () n : CellTallies nD τ sig Unit) g u) : ∃ s ∈ S, g = cell s := by
  classical
  induction S using Finset.induction_on with
  | empty => exact absurd h (Nat.lt_irrefl 0)
  | insert a S ha ih =>
    rw [Finset.sum_insert ha, Pi.add_apply, Finsupp.add_apply] at h
    rcases Nat.add_pos_iff_pos_or_pos.mp h with h | h
    · rw [tallyAt_apply] at h
      split at h
      · next hg => exact ⟨a, Finset.mem_insert_self .., hg.1⟩
      · exact absurd h (Nat.lt_irrefl 0)
    · obtain ⟨s, hs, e⟩ := ih h
      exact ⟨s, Finset.mem_insert_of_mem hs, e⟩

theorem owedR_pos {c : Dev nD} {j : ℕ} {g : GSem nD τ sig} {u : Unit} (h : 0 < owedR c j g u) : ∃ s : Fin 7, g = recvCell s (pe s c) := by
  obtain ⟨s, -, e⟩ := sum_tally_pos h; exact ⟨s, e⟩
theorem owedB_pos {c : Dev nD} {j : ℕ} {g : GSem nD τ sig} {u : Unit} (h : 0 < owedB c j g u) : ∃ s : Fin 7, g = barCell (pe s c) := by
  obtain ⟨s, -, e⟩ := sum_tally_pos h; exact ⟨s, e⟩

def L (g : GSem nD τ sig) : Finset Unit := if g.1.2 = .tc then {()} else ∅
def lvS : SemLoc sig → ℕ
  | .reg _ => 1
  | .dma q => if 12 ≤ q.val then 2 else 0
/-- barrier cells at 1, receive cells at 2, the rest at 0. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (s : Fin 7) (c : Dev nD) : lv (recvCell s c) () = 2 := if_pos (by rw [rcvS_val]; omega)

/-- The wait on the barrier, with all the copies still owed. -/
theorem mayWait_bar (c : Dev nD) (j : ℕ) : (levAts L lv : sProp 𝕄) ⊢ MayWait (c : Thread nD τ) (.reg barS) () (owedR c j) :=
  MayOwe.of_cut (L := L) (lev := lv) 1 (fun p hp => by rw [Finset.mem_singleton.mp hp, L_tc]; exact Finset.mem_singleton_self _)
    (fun g u hg => by obtain ⟨s, rfl⟩ := owedR_pos hg; rw [L_tc]; exact Finset.mem_singleton_self _)
    (fun p hp => by rw [Finset.mem_singleton.mp hp]; exact le_of_eq (lv_bar c))
    (fun g u hg => by obtain ⟨s, rfl⟩ := owedR_pos hg; rw [lv_recv]; decide)

/-- The cells a core may owe to before and between its two steps are all above level 0. -/
theorem owed_cut (c : Dev nD) (O : CellTallies nD τ sig Unit) (hO : O = O₀ c ∨ O = owedR c 0 ∨ O = 0) (g : GSem nD τ sig) (u : Unit)
    (h : 0 < O g u) : u ∈ L g ∧ 0 < lv g u := by
  have hR : ∀ {j : ℕ}, 0 < owedR c j g u → u ∈ L g ∧ 0 < lv g u := fun h => by
    obtain ⟨s, rfl⟩ := owedR_pos h; exact ⟨by rw [L_tc]; exact Finset.mem_singleton_self _, by rw [lv_recv]; decide⟩
  have hB : ∀ {j : ℕ}, 0 < owedB c j g u → u ∈ L g ∧ 0 < lv g u := fun h => by
    obtain ⟨s, rfl⟩ := owedB_pos h; exact ⟨by rw [L_tc]; exact Finset.mem_singleton_self _, by rw [lv_bar]; decide⟩
  rcases hO with rfl | rfl | rfl
  · unfold O₀ at h
    rw [Pi.add_apply, Finsupp.add_apply] at h
    rcases Nat.add_pos_iff_pos_or_pos.mp h with h | h
    · exact hR h
    · exact hB h
  · exact hR h
  · exact absurd h (Nat.lt_irrefl 0)

/-- A wait on a staging semaphore, whatever the core owes then. -/
theorem mayWait_stage (c : Dev nD) (q : DmaSem sig) (hq : q.val < 12) (O : CellTallies nD τ sig Unit)
    (hO : O = O₀ c ∨ O = owedR c 0 ∨ O = 0) : (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => (owed_cut c O hO g u hg).1)
    (fun p hp => by rw [Finset.mem_singleton.mp hp]; exact le_of_eq (if_neg (by omega)))
    (fun g u hg => (owed_cut c O hO g u hg).2)

end Cert.AllReduce

end
-- ==== Proof.Steps.lean ====
/-
# The all-reduce's operations, one lemma each

The landing buffer cut into its seven slots and joined back; then, for a slot `s`, the signal to partner `s`, the copy into its
slot, the wait for its copy, the wait for the own copy; and the wait on the barrier.
-/
module

public import proofs.«01_k».proof.Proof.Common
public import Idealize.ShloMosaic.Lib.Ring
public import Idealize.ShloMosaic.Lib.Pipeline.Value
public import Idealize.ShloMosaic.Lib.Pipeline.ValueKit

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The landing buffer's slots -/

/-- The elements of slot `s`. -/
abbrev slotSet (s : Fin 7) : Finset (cc0_scratch1 : Ref sig .tc).ty.Idx := (slotM s).view.set

theorem slotSet_eq (s : Fin 7) : slotSet s = (slotR s).set :=
  (View.set_reshape _ _).trans (View.set_slice_whole cc0_scratch1 (slotR s))

theorem fin3_cases (a : Fin 3) : a = 0 ∨ a = 1 ∨ a = 2 := by revert a; decide

theorem mem_slotSet (s : Fin 7) (i : (cc0_scratch1 : Ref sig .tc).ty.Idx) : i ∈ slotSet s ↔ (i (0 : Fin 3)).val = s.val := by
  rw [slotSet_eq]
  constructor
  · intro h
    rw [← Rect.map_emb_univ, Finset.mem_map] at h
    obtain ⟨j, -, rfl⟩ := h
    have e := ValueKit.rect_emb_unit_val (s := S7x2x2048) ![s.val, 0, 0] S1x2x2048.size (inbS s) j (0 : Fin 3)
    have hj : (j (0 : Fin 3)).val < 1 := (j (0 : Fin 3)).isLt
    refine e.trans ?_
    show s.val + (j (0 : Fin 3)).val = s.val
    omega
  · intro h
    rw [← Rect.map_emb_univ, Finset.mem_map]
    have h1 : (i (1 : Fin 3)).val < 2 := (i (1 : Fin 3)).isLt
    have h2 : (i (2 : Fin 3)).val < 2048 := (i (2 : Fin 3)).isLt
    refine ⟨fun a => ⟨(i a).val - (![s.val, 0, 0] : Fin 3 → Nat) a, ?_⟩, Finset.mem_univ _, ?_⟩
    · show (i a).val - (![s.val, 0, 0] : Fin 3 → Nat) a < S1x2x2048.size a
      rcases fin3_cases a with rfl | rfl | rfl
      · show (i (0 : Fin 3)).val - s.val < 1; omega
      · exact h1
      · exact h2
    · funext a
      apply Fin.ext
      refine (ValueKit.rect_emb_unit_val (s := S7x2x2048) ![s.val, 0, 0] S1x2x2048.size (inbS s) _ a).trans ?_
      show (![s.val, 0, 0] : Fin 3 → Nat) a + ((i a).val - (![s.val, 0, 0] : Fin 3 → Nat) a) = (i a).val
      rcases fin3_cases a with rfl | rfl | rfl
      · show s.val + ((i (0 : Fin 3)).val - s.val) = (i (0 : Fin 3)).val; omega
      · show 0 + ((i (1 : Fin 3)).val - 0) = (i (1 : Fin 3)).val; omega
      · show 0 + ((i (2 : Fin 3)).val - 0) = (i (2 : Fin 3)).val; omega

theorem slotSet_disjoint (s t : Fin 7) (h : s ≠ t) : Disjoint (slotSet s) (slotSet t) :=
  Finset.disjoint_left.mpr fun i hs ht => h (Fin.ext (((mem_slotSet s i).mp hs).symm.trans ((mem_slotSet t i).mp ht)))

theorem slotSet_cover : Finset.univ.biUnion slotSet = Finset.univ :=
  Finset.eq_univ_of_forall fun i => Finset.mem_biUnion.mpr ⟨⟨(i (0 : Fin 3)).val, (i (0 : Fin 3)).isLt⟩, Finset.mem_univ _, (mem_slotSet _ i).mpr rfl⟩

/-- The whole landing buffer of `c`, at contents not chosen. -/
abbrev commAny (c : Dev nD) : sProp 𝕄 :=
  iprop(∃ f : Buf (Elt F) ((c : Thread nD τ).loc cc0_scratch1), ((c : Thread nD τ).loc cc0_scratch1) ↦{fullShare} f)

theorem slot_intro (s : Fin 7) (c : Dev nD) (f : Buf (Elt F) ((c : Thread nD τ).loc cc0_scratch1)) :
    ((c : Thread nD τ).loc cc0_scratch1 ↦[slotSet s]{fullShare} f : sProp 𝕄) ⊢ slotAny s c := by
  iintro H; iexists f; iexact H

theorem comm_split (c : Dev nD) : (commAny c : sProp 𝕄) ⊢ bigSep Finset.univ fun s : Fin 7 => slotAny s c := by
  iintro ⟨%f, H⟩
  iapply (show (((c : Thread nD τ).loc cc0_scratch1 ↦{fullShare} f : sProp 𝕄) ⊢ bigSep Finset.univ fun s : Fin 7 => slotAny s c) from by
    rw [Ring.pointsTo_blocks (ℓ := (c : Thread nD τ).loc cc0_scratch1) slotSet slotSet_disjoint slotSet_cover f]
    exact bigSep_mono fun s _ => slot_intro s c f) $$ H

theorem comm_join (c : Dev nD) : (bigSep Finset.univ fun s : Fin 7 => (slotAny s c : sProp 𝕄)) ⊢ commAny c :=
  Ring.pointsTo_blocks_join_exists (ℓ := (c : Thread nD τ).loc cc0_scratch1) slotSet slotSet_disjoint slotSet_cover
    (fun _ => Scalar.ofBits .f32 0#32)

/-- Seven resources, one a slot. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A device's sums, cut into the seven copies' shares and the kept one. -/
theorem acc_shares (c : Dev nD) (f : Vec F S2x2048 .f32) : (accAt c fullShare f : sProp 𝕄)
    = iprop(accAt c (shareOf 0) f ∗ accAt c (shareOf 1) f ∗ accAt c (shareOf 2) f ∗ accAt c (shareOf 3) f ∗ accAt c (shareOf 4) f
        ∗ accAt c (shareOf 5) f ∗ accAt c (shareOf 6) f ∗ accAt c (shareOf 7) f) := by
  exact (ShareLeaves.pointsTo_leaves (ℓ := accM.view.loc (c : Thread nD τ)) accM.view.set f 3 fullShare).trans
    (bigSep_eight fun i => accAt c (shareOf i) f)

/-! ## The cells' invariants -/

/-- The kernel's own semaphores. -/
abbrev osem : Fin 7 ⊕ Fin 7 → SemLoc sig
  | .inl s => .dma (sndS s)
  | .inr s => .dma (rcvS s)

def barEmb : Dev nD ↪ GSem nD τ sig := ⟨fun c => barCell c, fun a b h => by
  have := congrArg (fun g : GSem nD τ sig => g.1.1) h; exact this⟩

theorem osem_injective : Function.Injective osem := by decide

def scEmb : Dev nD × (Fin 7 ⊕ Fin 7) ↪ GSem nD τ sig := ⟨fun p => ((p.1 : Thread nD τ), osem p.2), fun a b h => by
  have h1 : a.1 = b.1 := congrArg (fun g : GSem nD τ sig => g.1.1) h
  have h2 : osem a.2 = osem b.2 := congrArg (fun g : GSem nD τ sig => g.2) h
  exact Prod.ext h1 (osem_injective h2)⟩

def barCells : Finset (GSem nD τ sig) := Finset.univ.map barEmb
def scCells : Finset (GSem nD τ sig) := Finset.univ.map scEmb

theorem mem_bar (c : Dev nD) : barCell c ∈ barCells := Finset.mem_map.mpr ⟨c, Finset.mem_univ _, rfl⟩
theorem mem_send (s : Fin 7) (c : Dev nD) : sendCell s c ∈ scCells := Finset.mem_map.mpr ⟨(c, .inl s), Finset.mem_univ _, rfl⟩
theorem mem_recv (s : Fin 7) (c : Dev nD) : recvCell s c ∈ scCells := Finset.mem_map.mpr ⟨(c, .inr s), Finset.mem_univ _, rfl⟩

section Steps

variable (A2 : Dev nD → Vec F S2x2048 .f32) (K : GSem nD τ sig → ℕ)

/-- Every cell's invariant, and that round 0 of every barrier cell is open. -/
def records : sProp 𝕄 :=
  iprop((bigSep (barCells ∪ scCells) fun g => cellInv ER (rd A2) (K g) g) ∗ bigSep barCells fun g => reached ER g 0)

instance records_persistent : BI.Persistent (records A2 K) := by unfold records; infer_instance

theorem inv_at (g : GSem nD τ sig) (hg : g ∈ barCells ∪ scCells) :
    (bigSep (barCells ∪ scCells) fun g => (cellInv ER (rd A2) (K g) g : sProp 𝕄)) ⊢ cellInv ER (rd A2) (K g) g := bigSep_elim hg
theorem reached_at (g : GSem nD τ sig) (hg : g ∈ barCells) :
    (bigSep barCells fun g => (reached ER g 0 : sProp 𝕄)) ⊢ reached ER g 0 := bigSep_elim hg

theorem inv_bar (c : Dev nD) : records A2 K ⊢ cellInv ER (rd A2) (K (barCell c)) (barCell c) := by
  unfold records; iintro ⟨H, -⟩
  iapply (inv_at A2 K (barCell c) (Finset.mem_union_left _ (mem_bar c))); iexact H
theorem inv_send (s : Fin 7) (c : Dev nD) : records A2 K ⊢ cellInv ER (rd A2) (K (sendCell s c)) (sendCell s c) := by
  unfold records; iintro ⟨H, -⟩
  iapply (inv_at A2 K (sendCell s c) (Finset.mem_union_right _ (mem_send s c))); iexact H
theorem inv_recv (s : Fin 7) (c : Dev nD) : records A2 K ⊢ cellInv ER (rd A2) (K (recvCell s c)) (recvCell s c) := by
  unfold records; iintro ⟨H, -⟩
  iapply (inv_at A2 K (recvCell s c) (Finset.mem_union_right _ (mem_recv s c))); iexact H
theorem reached_bar (c : Dev nD) : records A2 K ⊢ reached ER (barCell c) 0 := by
  unfold records; iintro ⟨-, H⟩
  iapply (reached_at (F := F) (barCell c) (mem_bar c)); iexact H

abbrev 𝒱₀ : Variants := Variants.none

/-- What `c` owes, whatever it has waited for. -/
def owesX (c : Dev nD) (O : CellTallies nD τ sig Unit) : sProp 𝕄 := iprop(∃ W, owes (c : Thread nD τ) O W)

theorem owed_signal (s : Fin 7) (c : Dev nD) :
    owedR c 0 + owedB c s.val = owedR c 0 + owedB c (s.val + 1) + tallyAt (barCell (pe s c)) () 1 := by
  rw [owedB_step, add_assoc]

theorem slot_credit (s : Fin 7) : (slotM s).view.dmaCredit = N := rfl

/-- The signal to partner `s`. -/
theorem signal_step (s : Fin 7) (c n : Dev nD) (hn : n = pe s c) {α : Type} {Q : α → sProp 𝕄} {k : PUnit → Prog (TpuEff nD τ sig (Elt F) Λ₀ .tc) α} :
    iprop(records A2 K ∗ owesX c (owedR c 0 + owedB c s.val) ∗ dutyTok ER (barCell (pe s c)) 0 s ∗ slotAny s c ∗ reached ER (recvCell s c) 0)
      ⊢ iprop((owesX c (owedR c 0 + owedB c (s.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  unfold owesX
  iintro ⟨#HR, ⟨%W, HO⟩, Ht, Hs, #Hr⟩ Hk
  iapply (Rounds.wp_signal 𝒱₀ ER (rd A2) (c : Thread nD τ) none (dst := (pe s c : Thread nD τ)) (sem := barS) (r := 0) (d := s)
      (κ := K (barCell (pe s c))) (by rw [duties_bar]; exact Finset.mem_univ _) (amount_bar A2 (pe s c) s) ()
      (owedR c 0 + owedB c (s.val + 1)) (owed_signal s c)) $$ [HO Ht Hs]
  · isplitr; · iapply (inv_bar A2 K (pe s c)); iexact HR
    isplitl [HO]; · iexact HO
    isplitl [Ht]; · iexact Ht
    isplitl [Hs]
    · rw [payload_bar]; unfold barPay; rw [pe_pe]
      isplitl [Hs]; · iexact Hs
      iexact Hr
    · iapply (reached_bar A2 K (pe s c)); iexact HR
  iintro HO
  iapply Hk
  iexists W; iexact HO

/-- The wait for the seven partners. -/
theorem barrier_step (c : Dev nD) {α : Type} {Q : α → sProp 𝕄} {k : PUnit → Prog (TpuEff nD τ sig (Elt F) Λ₀ .tc) α} :
    iprop(records A2 K ∗ levAts L lv ∗ owesX c (owedR c 0) ∗ cred (tallyAt (barCell c) () 7) ∗ atPos ER (barCell c) 0 ∅ 0)
      ⊢ iprop(((owesX c (owedR c 0) ∗ atPos ER (barCell c) (0 + 1) ∅ 0 ∗ bigSep Finset.univ fun s : Fin 7 => barPay s c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold owesX
  iintro ⟨#HR, #Hlev, ⟨%W, HO⟩, Hc, Hat⟩ Hk
  iapply (Rounds.wp_wait_rest_token 𝒱₀ ER (rd A2) (c : Thread nD τ) none (κ := K (barCell c))
      (wpE_semWait_eq 𝒱₀ (c : Thread nD τ) none Set.univ) (Set.mem_univ _) () (O := owedR c 0) (W := W) (R := 0) (m := 0) (T := ∅)
      ((Nat.zero_add 7).trans (expect_bar A2 c).symm)) $$ [HO Hc Hat]
  · isplitr; · iapply (inv_bar A2 K c); iexact HR
    isplitl [Hc]; · iexact Hc
    isplitl [HO]; · iexact HO
    isplitr; · iapply (mayWait_bar c 0); iexact Hlev
    iexact Hat
  iintro ⟨HO, Hat, -, Hp⟩
  iapply Hk
  isplitl [HO]; · iexists _; iexact HO
  isplitl [Hat]; · iexact Hat
  iapply (Entails.of_eq (rest_bar A2 c)); iexact Hp

/-- The copy of the sums into partner `s`'s slot `s`. -/
theorem send_step (s : Fin 7) (c n : Dev nD) (hn : n = pe s c) {qs qr : DmaSem sig} (hqs : qs = sndS s) (hqr : qr = rcvS s)
    {D : Memref sig .tc .vmem S2x2048 .f32} (hD : D = slotM s)
    {hsc : (D : Memref sig (Dev.tc n : Thread nD τ).2.kind .vmem S2x2048 .f32).view.ref.isScScratch = false}
    {hsrc : (accM : Memref sig .tc .vmem S2x2048 .f32).view.WordExact} {hdst : D.view.WordExact}
    {hsem : DmaTarget.Typed .vmem (.dma qr) (.remote (Dev.tc n : Thread nD τ) D (.dma qs) hsc)}
    {α : Type} {Q : α → sProp 𝕄} {k : PUnit → Prog (TpuEff nD τ sig (Elt F) Λ₀ .tc) α} :
    iprop(records A2 K ∗ accAt c (shareOf s.castSucc) (A2 c) ∗ slotAny s (pe s c) ∗ owesX c (owedR c s.val)
        ∗ dutyTok ER (sendCell s c) 0 0 ∗ reached ER (sendCell s c) 0
        ∗ dutyTok ER (recvCell s (pe s c)) 0 0 ∗ reached ER (recvCell s (pe s c)) 0)
      ⊢ iprop(((cred (tallyAt (sendCell s c) () N) ∗ owesX c (owedR c (s.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc n : Thread nD τ) D (.dma qs) hsc) (.dma qr) hsrc hdst hsem) k) Q) := by
  subst hn hqs hqr hD
  unfold owesX
  iintro ⟨#HR, Ha, ⟨%fd, Hs⟩, ⟨%W, HO⟩, Ht1, #Hr1, Ht2, #Hr2⟩ Hk
  iapply (Rounds.wp_send_pointsTo 𝒱₀ ER (rd A2) (c : Thread nD τ) none (κ₁ := K (sendCell s c)) (κ₂ := K (recvCell s (pe s c)))
    (r₁ := 0) (r₂ := 0) (d₁ := 0) (d₂ := 0) (fd := fd) (q := shareOf s.castSucc) (fs := A2 c)
    (by rw [duties_send]; exact Finset.mem_singleton_self _) (by rw [duties_recv]; exact Finset.mem_singleton_self _)
    () () N rfl (amount_send A2 s c 0) (amount_recv A2 s (pe s c) 0) (owedR c (s.val + 1)) (owedR_step s c) (W := W)
    (by rw [payload_send]; exact BI.Entails.refl _)
    (by
      rw [payload_recv]; unfold recvPay owns; rw [pe_pe]
      iintro H
      iexists _
      isplitr; swap
      · iexact H
      ipureintro
      rw [View.read_write_univ]
      exact View.read_whole _ _)) $$ [Ha Hs HO Ht1 Ht2]
  · isplitr; · iapply (inv_send A2 K s c); iexact HR
    isplitr; · iapply (inv_recv A2 K s (pe s c)); iexact HR
    isplitl [Ha]; · iexact Ha
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for partner `s`'s copy. -/
theorem recv_step (s : Fin 7) (c : Dev nD) {qr : DmaSem sig} (hqr : qr = rcvS s)
    {D : Memref sig .tc .vmem S2x2048 .f32} (hD : D = slotM s)
    {hsrc : (accM : Memref sig .tc .vmem S2x2048 .f32).view.WordExact} {hdst : D.view.WordExact}
    {α : Type} {Q : α → sProp 𝕄} {k : PUnit → Prog (TpuEff nD τ sig (Elt F) Λ₀ .tc) α} :
    iprop(records A2 K ∗ owesX c 0 ∗ cred (tallyAt (recvCell s c) () N) ∗ atPos ER (recvCell s c) 0 ∅ 0)
      ⊢ iprop(((owesX c 0 ∗ atPos ER (recvCell s c) (0 + 1) ∅ 0 ∗ recvPay A2 s c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qr accM D hsrc hdst) k) Q) := by
  subst hqr hD
  unfold owesX
  iintro ⟨#HR, ⟨%W, HO⟩, Hc, Hat⟩ Hk
  iapply (Rounds.wp_wait_rest_token 𝒱₀ ER (rd A2) (c : Thread nD τ) none (κ := K (recvCell s c)) (k' := (slotM s).view.dmaCredit)
      (wpE_waitDma2_eq 𝒱₀ (c : Thread nD τ) none Set.univ) (Set.mem_univ _) () (O := 0) (W := W) (R := 0) (m := 0) (T := ∅)
      ((Nat.zero_add _).trans ((slot_credit s).trans (expect_recv A2 s c).symm))) $$ [HO Hc Hat]
  · isplitr; · iapply (inv_recv A2 K s c); iexact HR
    isplitl [Hc]; · rw [slot_credit]; iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  iapply (Entails.of_eq (rest_recv A2 s c)); iexact Hp

/-- The wait for the own copy into partner `s`'s slot. -/
theorem sent_step (s : Fin 7) (c : Dev nD) {qs : DmaSem sig} (hqs : qs = sndS s)
    {D : Memref sig .tc .vmem S2x2048 .f32}
    {hsrc : D.view.WordExact} {hdst : (accM : Memref sig .tc .vmem S2x2048 .f32).view.WordExact}
    {α : Type} {Q : α → sProp 𝕄} {k : PUnit → Prog (TpuEff nD τ sig (Elt F) Λ₀ .tc) α} :
    iprop(records A2 K ∗ owesX c 0 ∗ cred (tallyAt (sendCell s c) () N) ∗ atPos ER (sendCell s c) 0 ∅ 0)
      ⊢ iprop(((owesX c 0 ∗ atPos ER (sendCell s c) (0 + 1) ∅ 0 ∗ sendPay A2 s c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs D accM hsrc hdst) k) Q) := by
  subst hqs
  unfold owesX
  iintro ⟨#HR, ⟨%W, HO⟩, Hc, Hat⟩ Hk
  iapply (Rounds.wp_wait_rest_token 𝒱₀ ER (rd A2) (c : Thread nD τ) none (κ := K (sendCell s c)) (k' := N)
      (wpE_waitDma2_eq 𝒱₀ (c : Thread nD τ) none Set.univ) (Set.mem_univ _) () (O := 0) (W := W) (R := 0) (m := 0) (T := ∅)
      ((Nat.zero_add _).trans (expect_send A2 s c).symm)) $$ [HO Hc Hat]
  · isplitr; · iapply (inv_send A2 K s c); iexact HR
    isplitl [Hc]; · iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  iapply (Entails.of_eq (rest_send A2 s c)); iexact Hp

/-- A cell whose one round is over is closed. -/
theorem close_step (g : GSem nD τ sig) :
    iprop(cellInv ER (rd A2) (K g) g ∗ atPos ER g (0 + 1) ∅ 0) ⊢ (|={Set.univ}=> semVal g 0 : sProp 𝕄) :=
  Rounds.cell_close ER (rd A2) (Set.mem_univ (K g)) (fun h => h) (duties_later A2 g)

end Steps

end Cert.AllReduce

end
-- ==== Proof.Body.lean ====
/-
# The all-reduce's body: the two grid steps

Step 0 clears the sums, tells the seven partners that the own slots are ready, and adds the first block. Step 1 adds the second
block, waits for the partners, sends them the sums, waits for theirs, and stores the total.
-/
module

public import proofs.«01_k».proof.Proof.Steps
public import Idealize.ShloMosaic.Lib.VecWindow

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Values -/

/-- One block added to the sums. -/
def stepF (X Y : Vec F S512x2048 .bf16) (a : Vec F S2x2048 .f32) : Vec F S2x2048 .f32 :=
  k0_pay1 (k0_pay4 X) (k0_pay5 Y) (k0_pay6 X) a

theorem casts_back : (S2x2048 : Shape).ShapeCasts S1x2x2048 := by decide

theorem casts_slot : (S1x2x2048 : Shape).ShapeCasts S2x2048 := by decide

/-- Sums as a one-slot block. -/
def slotVec (X : Vec F S2x2048 .f32) : Vec F S1x2x2048 .f32 := shapeCast S1x2x2048 X casts_back

/-- The own sums and the seven partners' in the kernel's order. -/
def outV (a : Vec F S2x2048 .f32) (X : Fin 7 → Vec F S2x2048 .f32) : Vec F S2x2048 .f32 :=
  addf (addf (addf (addf (addf (addf (addf a (X 0)) (X 1)) (X 2)) (X 3)) (X 4)) (X 5)) (X 6)

theorem pay3_outV (a : Vec F S2x2048 .f32) (X : Fin 7 → Vec F S2x2048 .f32) :
    k0_pay3 a (slotVec (X 0)) (slotVec (X 1)) (slotVec (X 2)) (slotVec (X 3)) (slotVec (X 4)) (slotVec (X 5)) (slotVec (X 6)) = outV a X := by
  unfold k0_pay3 slotVec outV
  simp only [shapeCast_shapeCast, shapeCast_self]

/-! ## Loads and stores of whole buffers, and of a slot -/

section Mem

variable (c : Dev nD)

theorem load_step {s : Shape} {e : EltTy} (M : Memref sig .tc .vmem s e) (q : PosShare TreeShare) (X : s.Idx → Elt F e)
    {off : Fin s.rank → ℕ} {inb : ∀ a, off a + s.size a ≤ s.size a}
    {hl : M.view.LoadsAt (Rect.unit (s := s) off s.size inb).toLoadRect}
    {α : Type} {Q : α → sProp 𝕄} {k : (s.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit (s := s) off s.size inb).toLoadRect hl) k) Q) := by
  unfold owns
  iintro ⟨%f, %hf, H⟩ Hk
  iapply (wp_load 𝒱₀ (c : Thread nD τ) none Set.univ (m := M) (M.view.setOn_subset_set _)) $$ H
  iintro H
  rw [View.readAt_full M.view f inb, hf]
  iapply Hk
  iexists f
  isplitr; · ipureintro; exact hf
  iexact H

theorem store_step {s : Shape} {e : EltTy} (M : Memref sig .tc .vmem s e) (X w : s.Idx → Elt F e)
    {off : Fin s.rank → ℕ} {inb : ∀ a, off a + s.size a ≤ s.size a}
    {hx : (M.access (Rect.unit (s := s) off s.size inb)).Stores Finset.univ} {hm}
    {α : Type} {Q : α → sProp 𝕄} {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := s) off s.size inb) w Finset.univ hx hm) k) Q) := by
  unfold owns
  iintro ⟨%f, %hf, H⟩ Hk
  iapply (wp_store 𝒱₀ (c : Thread nD τ) none Set.univ (m := M) (r := Rect.unit (s := s) off s.size inb) (Mk := Finset.univ)
    (S := M.view.set) (M.setOn_access_subset _ _)) $$ H
  iintro H
  iapply Hk
  iexists _
  isplitr; swap
  · iexact H
  ipureintro
  exact View.read_writes_full M.view f inb w []

/-- Device `c`'s sums at a share, as a view holding them. -/
theorem acc_owns (q : PosShare TreeShare) (f : Vec F S2x2048 .f32) :
    (accAt c q f : sProp 𝕄) ⊢ owns (c : Thread nD τ) accM q f := by
  unfold owns
  iintro H
  iexists f
  isplitr; · ipureintro; exact View.read_whole _ _
  iexact H

theorem owns_acc (q : PosShare TreeShare) (f : Vec F S2x2048 .f32) :
    (owns (c : Thread nD τ) accM q f : sProp 𝕄) ⊢ accAt c q f := by
  unfold owns
  iintro ⟨%g, %hg, H⟩
  have e : g = f := (View.read_whole (Val := Elt F) cc0_scratch0 g).symm.trans hg
  subst e
  iexact H

theorem slot_load_subset (s : Fin 7) : commM.view.setOn (slotR s).toLoadRect.set ⊆ slotSet s := by
  intro i hi
  rw [slotSet_eq]
  obtain ⟨x, hx, rfl⟩ := Finset.mem_map.mp hi
  exact hx

/-- The load of slot `s` of the landing buffer. -/
theorem slot_step (s : Fin 7) (X : Vec F S2x2048 .f32)
    {hl : commM.view.LoadsAt (slotR s).toLoadRect}
    {α : Type} {Q : α → sProp 𝕄} {k : (S1x2x2048.Idx → Elt F .f32) → Prog (TpuEff nD τ sig (Elt F) Λ₀ .tc) α} :
    (owns (c : Thread nD τ) (slotM s) fullShare X : sProp 𝕄)
      ⊢ iprop((owns (c : Thread nD τ) (slotM s) fullShare X
            -∗ wp frame (wpE (defs₀ (F := F)) 𝒱₀ (c : Thread nD τ) none) Set.univ (k (slotVec X)) Q)
          -∗ wp frame (wpE (defs₀ (F := F)) 𝒱₀ (c : Thread nD τ) none) Set.univ
              (.op (.load commM (slotR s).toLoadRect hl) k) Q) := by
  unfold owns
  iintro ⟨%f, %hf, H⟩ Hk
  iapply (wp_load 𝒱₀ (c : Thread nD τ) none Set.univ (m := commM) (S := slotSet s) (slot_load_subset s)) $$ H
  iintro H
  have e : commM.view.readAt (Elt F) (slotR s).toLoadRect f = slotVec X := by
    have h := (Memref.read_squeeze_slice commM (slotR s) (fun _ => rfl) squeezes_S1x2x2048_S2x2048 casts_slot f).symm.trans hf
    rw [← h]; exact (shapeCast_shapeCast _ _ _).symm
  rw [e]
  iapply Hk
  iexists f
  isplitr; · ipureintro; exact hf
  iexact H

end Mem

/-! ## The devices and the semaphores the body names -/

section Names

theorem dev1 (c : Dev nD) {h} : (⟨k0_dev1 c, h⟩ : Dev nD) = pe 0 c := Fin.ext ((k0_dev1_eq c).trans (by revert c; decide))
theorem dev2 (c : Dev nD) {h} : (⟨k0_dev2 c, h⟩ : Dev nD) = pe 1 c := Fin.ext ((k0_dev2_eq c).trans (by revert c; decide))
theorem dev3 (c : Dev nD) {h} : (⟨k0_dev3 c, h⟩ : Dev nD) = pe 2 c := Fin.ext ((k0_dev3_eq c).trans (by revert c; decide))
theorem dev4 (c : Dev nD) {h} : (⟨k0_dev4 c, h⟩ : Dev nD) = pe 3 c := Fin.ext ((k0_dev4_eq c).trans (by revert c; decide))
theorem dev5 (c : Dev nD) {h} : (⟨k0_dev5 c, h⟩ : Dev nD) = pe 4 c := Fin.ext ((k0_dev5_eq c).trans (by revert c; decide))
theorem dev6 (c : Dev nD) {h} : (⟨k0_dev6 c, h⟩ : Dev nD) = pe 5 c := Fin.ext ((k0_dev6_eq c).trans (by revert c; decide))
theorem dev7 (c : Dev nD) {h} : (⟨k0_dev7 c, h⟩ : Dev nD) = pe 6 c := Fin.ext ((k0_dev7_eq c).trans (by revert c; decide))
theorem dev8 (c : Dev nD) {h} : (⟨k0_dev8 c, h⟩ : Dev nD) = pe 0 c := Fin.ext ((k0_dev8_eq c).trans (by revert c; decide))
theorem dev9 (c : Dev nD) {h} : (⟨k0_dev9 c, h⟩ : Dev nD) = pe 1 c := Fin.ext ((k0_dev9_eq c).trans (by revert c; decide))
theorem dev10 (c : Dev nD) {h} : (⟨k0_dev10 c, h⟩ : Dev nD) = pe 2 c := Fin.ext ((k0_dev10_eq c).trans (by revert c; decide))
theorem dev11 (c : Dev nD) {h} : (⟨k0_dev11 c, h⟩ : Dev nD) = pe 3 c := Fin.ext ((k0_dev11_eq c).trans (by revert c; decide))
theorem dev12 (c : Dev nD) {h} : (⟨k0_dev12 c, h⟩ : Dev nD) = pe 4 c := Fin.ext ((k0_dev12_eq c).trans (by revert c; decide))
theorem dev13 (c : Dev nD) {h} : (⟨k0_dev13 c, h⟩ : Dev nD) = pe 5 c := Fin.ext ((k0_dev13_eq c).trans (by revert c; decide))
theorem dev14 (c : Dev nD) {h} : (⟨k0_dev14 c, h⟩ : Dev nD) = pe 6 c := Fin.ext ((k0_dev14_eq c).trans (by revert c; decide))

theorem snd_at (s : Fin 7) (inb : ∀ a, (![s.val] : Fin 1 → Nat) a + S1.size a ≤ S7.size a) :
    (((cc0_scratch2 : DmaSems sig S7).slice (Rect.unit (s := S7) ![s.val] S1.size inb)).squeeze S_ squeezes_S1_S_ : DmaSems sig S_).sem = sndS s := by
  revert s; decide
theorem rcv_at (s : Fin 7) (inb : ∀ a, (![s.val] : Fin 1 → Nat) a + S1.size a ≤ S7.size a) :
    (((cc0_scratch3 : DmaSems sig S7).slice (Rect.unit (s := S7) ![s.val] S1.size inb)).squeeze S_ squeezes_S1_S_ : DmaSems sig S_).sem = rcvS s := by
  revert s; decide

theorem owesX_sent (c : Dev nD) : (owesX c (owedR c 0 + owedB c ((6 : Fin 7).val + 1)) : sProp 𝕄) = owesX c (owedR c 0) := by
  rw [show (6 : Fin 7).val + 1 = 7 from rfl, owedB_last, add_zero]

theorem owesX_done (c : Dev nD) : (owesX c (owedR c ((6 : Fin 7).val + 1)) : sProp 𝕄) = owesX c 0 := by
  rw [show (6 : Fin 7).val + 1 = 7 from rfl, owedR_last]

end Names

/-! ## Step 0 -/

section Runs

variable (A2 : Dev nD → Vec F S2x2048 .f32) (K : GSem nD τ sig → ℕ)
variable (i : grid0.Coords) (M1 : Memref sig .tc .smem S1 .i32) (w1 : M1.IsWhole)
  (M2 : Memref sig .tc .vmem S512x2048 .bf16) (w2 : M2.IsWhole) (M3 : Memref sig .tc .vmem S512x2048 .bf16) (w3 : M3.IsWhole)
  (M4 : Memref sig .tc .vmem S2x2048 .f32) (w4 : M4.IsWhole) (w5 : accM.IsWhole) (w6 : commM.IsWhole)

theorem step0 (h1 : k0_cond1 i = 1#1) (h2 : ¬ k0_cond2 i = 1#1) (c : Dev nD) (X Y : Vec F S512x2048 .bf16) :
    iprop(records A2 K ∗ (bigSep Finset.univ fun s : Fin 7 => dutyTok ER (barCell (pe s c)) 0 s)
        ∗ (bigSep Finset.univ fun s : Fin 7 => slotAny s c) ∗ (bigSep Finset.univ fun s : Fin 7 => reached ER (recvCell s c) 0)
        ∗ owesX c (O₀ c) ∗ (∃ f, accAt c fullShare f)
        ∗ owns (c : Thread nD τ) M2 fullShare X ∗ owns (c : Thread nD τ) M3 fullShare Y)
      ⊢ wp frame (wpE (defs₀ (F := F)) 𝒱₀ (c : Thread nD τ) none) Set.univ
          (cc0_body (F := F) i M1 w1 M2 w2 M3 w3 M4 w4 accM w5 commM w6 cc0_scratch2 cc0_scratch3)
          (fun _ => iprop(owesX c (owedR c 0) ∗ accAt c fullShare (stepF X Y k0_pay2)
            ∗ owns (c : Thread nD τ) M2 fullShare X ∗ owns (c : Thread nD τ) M3 fullShare Y)) := by
  simp only [cc0_body_eq_skeleton]
  unfold cc0_body_skel
  simp only [k0_part9_eq_skeleton]
  unfold k0_part9_skel
  simp only [dif_pos h1, dif_neg h2, k0_part1_eq_skeleton]
  unfold k0_part1_skel
  simp only [semSignalWord, Prog.lift, Prog.bind_op, Prog.bind_ret, Prog.pure_eq_ret, wp_deviceId]
  rw [bigSep_seven, bigSep_seven, bigSep_seven]
  iintro ⟨#HR, ⟨Ht0, Ht1, Ht2, Ht3, Ht4, Ht5, Ht6⟩, ⟨Hs0, Hs1, Hs2, Hs3, Hs4, Hs5, Hs6⟩, ⟨#Hr0, #Hr1, #Hr2, #Hr3, #Hr4, #Hr5, #Hr6⟩, HO, ⟨%f, Ha⟩, H2, H3⟩
  ihave Ha := (acc_owns c fullShare f) $$ Ha
  iapply (load_step c accM fullShare f) $$ Ha
  iintro Ha
  iapply (store_step c accM f (k0_pay2 (F := F))) $$ Ha
  iintro Ha
  iapply (signal_step A2 K 0 c _ (dev1 c)) $$ [HO Ht0 Hs0]
  · isplitr; · iexact HR
    isplitl [HO]; · iexact HO
    isplitl [Ht0]; · iexact Ht0
    isplitl [Hs0]; · iexact Hs0
    iexact Hr0
  iintro HO
  iapply (signal_step A2 K 1 c _ (dev2 c)) $$ [HO Ht1 Hs1]
  · isplitr; · iexact HR
    isplitl [HO]; · iexact HO
    isplitl [Ht1]; · iexact Ht1
    isplitl [Hs1]; · iexact Hs1
    iexact Hr1
  iintro HO
  iapply (signal_step A2 K 2 c _ (dev3 c)) $$ [HO Ht2 Hs2]
  · isplitr; · iexact HR
    isplitl [HO]; · iexact HO
    isplitl [Ht2]; · iexact Ht2
    isplitl [Hs2]; · iexact Hs2
    iexact Hr2
  iintro HO
  iapply (signal_step A2 K 3 c _ (dev4 c)) $$ [HO Ht3 Hs3]
  · isplitr; · iexact HR
    isplitl [HO]; · iexact HO
    isplitl [Ht3]; · iexact Ht3
    isplitl [Hs3]; · iexact Hs3
    iexact Hr3
  iintro HO
  iapply (signal_step A2 K 4 c _ (dev5 c)) $$ [HO Ht4 Hs4]
  · isplitr; · iexact HR
    isplitl [HO]; · iexact HO
    isplitl [Ht4]; · iexact Ht4
    isplitl [Hs4]; · iexact Hs4
    iexact Hr4
  iintro HO
  iapply (signal_step A2 K 5 c _ (dev6 c)) $$ [HO Ht5 Hs5]
  · isplitr; · iexact HR
    isplitl [HO]; · iexact HO
    isplitl [Ht5]; · iexact Ht5
    isplitl [Hs5]; · iexact Hs5
    iexact Hr5
  iintro HO
  iapply (signal_step A2 K 6 c _ (dev7 c)) $$ [HO Ht6 Hs6]
  · isplitr; · iexact HR
    isplitl [HO]; · iexact HO
    isplitl [Ht6]; · iexact Ht6
    isplitl [Hs6]; · iexact Hs6
    iexact Hr6
  iintro HO
  iapply (load_step c M2 fullShare X) $$ H2
  iintro H2
  iapply (load_step c M3 fullShare Y) $$ H3
  iintro H3
  iapply (load_step c accM fullShare (k0_pay2 (F := F))) $$ Ha
  iintro Ha
  iapply (load_step c accM fullShare (k0_pay2 (F := F))) $$ Ha
  iintro Ha
  iapply (store_step c accM (k0_pay2 (F := F)) (stepF X Y k0_pay2)) $$ Ha
  iintro Ha
  rw [wp_ret]
  imodintro
  isplitl [HO]; · iapply (Entails.of_eq (owesX_sent (F := F) c)); iexact HO
  isplitl [Ha]; · iapply (owns_acc c fullShare (stepF X Y k0_pay2)); iexact Ha
  isplitl [H2]; · iexact H2
  iexact H3

theorem recvPay_eq (s : Fin 7) (c : Dev nD) : recvPay A2 s c = owns (c : Thread nD τ) (slotM s) fullShare (A2 (pe s c)) := rfl
theorem sendPay_eq (s : Fin 7) (c : Dev nD) : sendPay A2 s c = accAt c (shareOf s.castSucc) (A2 c) := rfl
theorem slot_owns (s : Fin 7) (c : Dev nD) (X : Vec F S2x2048 .f32) :
    (owns (c : Thread nD τ) (slotM s) fullShare X : sProp 𝕄) ⊢ slotAny s c := by
  unfold owns
  iintro ⟨%f, -, H⟩
  iexists f
  iexact H
theorem close_bar (c : Dev nD) : iprop(records A2 K ∗ atPos ER (barCell c) (0 + 1) ∅ 0) ⊢ (|={Set.univ}=> semVal (barCell c) 0 : sProp 𝕄) := by
  iintro ⟨#HR, H⟩
  iapply (close_step A2 K (barCell c))
  isplitr; · iapply (inv_bar A2 K c); iexact HR
  iexact H
theorem close_send (s : Fin 7) (c : Dev nD) : iprop(records A2 K ∗ atPos ER (sendCell s c) (0 + 1) ∅ 0) ⊢ (|={Set.univ}=> semVal (sendCell s c) 0 : sProp 𝕄) := by
  iintro ⟨#HR, H⟩
  iapply (close_step A2 K (sendCell s c))
  isplitr; · iapply (inv_send A2 K s c); iexact HR
  iexact H
theorem close_recv (s : Fin 7) (c : Dev nD) : iprop(records A2 K ∗ atPos ER (recvCell s c) (0 + 1) ∅ 0) ⊢ (|={Set.univ}=> semVal (recvCell s c) 0 : sProp 𝕄) := by
  iintro ⟨#HR, H⟩
  iapply (close_step A2 K (recvCell s c))
  isplitr; · iapply (inv_recv A2 K s c); iexact HR
  iexact H

/-! ## Step 1 -/

theorem step1 (h1 : ¬ k0_cond1 i = 1#1) (h2 : k0_cond2 i = 1#1) (c : Dev nD) (X Y : Vec F S512x2048 .bf16) (A1 : Vec F S2x2048 .f32)
    (hA : stepF X Y A1 = A2 c) :
    iprop(records A2 K ∗ levAts L lv ∗ owesX c (owedR c 0) ∗ cred (tallyAt (barCell c) () 7) ∗ atPos ER (barCell c) 0 ∅ 0
        ∗ (bigSep Finset.univ fun s : Fin 7 => dutyTok ER (sendCell s c) 0 0)
        ∗ (bigSep Finset.univ fun s : Fin 7 => dutyTok ER (recvCell s (pe s c)) 0 0)
        ∗ (bigSep Finset.univ fun s : Fin 7 => reached ER (sendCell s c) 0)
        ∗ (bigSep Finset.univ fun s : Fin 7 => cred (tallyAt (recvCell s c) () N))
        ∗ (bigSep Finset.univ fun s : Fin 7 => atPos ER (sendCell s c) 0 ∅ 0)
        ∗ (bigSep Finset.univ fun s : Fin 7 => atPos ER (recvCell s c) 0 ∅ 0)
        ∗ accAt c fullShare A1
        ∗ owns (c : Thread nD τ) M2 fullShare X ∗ owns (c : Thread nD τ) M3 fullShare Y ∗ (∃ d, owns (c : Thread nD τ) M4 fullShare d))
      ⊢ wp frame (wpE (defs₀ (F := F)) 𝒱₀ (c : Thread nD τ) none) Set.univ
          (cc0_body (F := F) i M1 w1 M2 w2 M3 w3 M4 w4 accM w5 commM w6 cc0_scratch2 cc0_scratch3)
          (fun _ => iprop(owesX c 0 ∗ semVal (barCell c) 0
            ∗ (bigSep Finset.univ fun s : Fin 7 => semVal (sendCell s c) 0)
            ∗ (bigSep Finset.univ fun s : Fin 7 => semVal (recvCell s c) 0)
            ∗ commAny c ∗ (∃ f, accAt c fullShare f)
            ∗ owns (c : Thread nD τ) M2 fullShare X ∗ owns (c : Thread nD τ) M3 fullShare Y
            ∗ owns (c : Thread nD τ) M4 fullShare (outV (A2 c) fun s => A2 (pe s c)))) := by
  simp only [cc0_body_eq_skeleton]
  unfold cc0_body_skel
  simp only [k0_part9_eq_skeleton]
  unfold k0_part9_skel
  simp only [dif_neg h1, dif_pos h2, k0_part2_eq_skeleton, k0_part3_eq_skeleton, k0_part4_eq_skeleton, k0_part5_eq_skeleton,
    k0_part6_eq_skeleton, k0_part7_eq_skeleton, k0_part8_eq_skeleton]
  unfold k0_part2_skel k0_part3_skel k0_part4_skel k0_part5_skel k0_part6_skel k0_part7_skel k0_part8_skel
  simp only [semWaitWord, Prog.lift, Prog.bind_op, Prog.bind_ret, Prog.pure_eq_ret, wp_deviceId]
  simp only [bigSep_seven]
  iintro ⟨#HR, #Hlev, HO, Hcb, Hab, ⟨Ht0, Ht1, Ht2, Ht3, Ht4, Ht5, Ht6⟩, ⟨Hu0, Hu1, Hu2, Hu3, Hu4, Hu5, Hu6⟩, ⟨#Hr0, #Hr1, #Hr2, #Hr3, #Hr4, #Hr5, #Hr6⟩, ⟨Hc0, Hc1, Hc2, Hc3, Hc4, Hc5, Hc6⟩, ⟨Hp0, Hp1, Hp2, Hp3, Hp4, Hp5, Hp6⟩, ⟨Hq0, Hq1, Hq2, Hq3, Hq4, Hq5, Hq6⟩, Ha, H2, H3, ⟨%d4, H4⟩⟩
  iapply (load_step c M2 fullShare X) $$ H2
  iintro H2
  iapply (load_step c M3 fullShare Y) $$ H3
  iintro H3
  ihave Ha := (acc_owns c fullShare A1) $$ Ha
  iapply (load_step c accM fullShare A1) $$ Ha
  iintro Ha
  iapply (load_step c accM fullShare A1) $$ Ha
  iintro Ha
  iapply (store_step c accM A1 (stepF X Y A1)) $$ Ha
  rw [hA]
  iintro Ha
  ihave Ha := (owns_acc c fullShare (A2 c)) $$ Ha
  ihave Ha := (Entails.of_eq (acc_shares c (A2 c))) $$ Ha
  icases Ha with ⟨Ha0, Ha1, Ha2, Ha3, Ha4, Ha5, Ha6, Ha7⟩
  iapply (barrier_step A2 K c) $$ [HO Hcb Hab]
  · isplitr; · iexact HR
    isplitr; · iexact Hlev
    isplitl [HO]; · iexact HO
    isplitl [Hcb]; · iexact Hcb
    iexact Hab
  simp only [bigSep_seven, barPay]
  iintro ⟨HO, Hab, ⟨Hs0, #Hv0⟩, ⟨Hs1, #Hv1⟩, ⟨Hs2, #Hv2⟩, ⟨Hs3, #Hv3⟩, ⟨Hs4, #Hv4⟩, ⟨Hs5, #Hv5⟩, ⟨Hs6, #Hv6⟩⟩
  iapply (send_step A2 K 0 c _ (dev8 c) (snd_at 0 _) (rcv_at 0 _) (D := slotM 0) rfl) $$ [Ha0 Hs0 HO Ht0 Hu0]
  · isplitr; · iexact HR
    isplitl [Ha0]; · iexact Ha0
    isplitl [Hs0]; · iexact Hs0
    isplitl [HO]; · iexact HO
    isplitl [Ht0]; · iexact Ht0
    isplitr; · iexact Hr0
    isplitl [Hu0]; · iexact Hu0
    iexact Hv0
  iintro ⟨Hd0, HO⟩
  iapply (send_step A2 K 1 c _ (dev9 c) (snd_at 1 _) (rcv_at 1 _) (D := slotM 1) rfl) $$ [Ha1 Hs1 HO Ht1 Hu1]
  · isplitr; · iexact HR
    isplitl [Ha1]; · iexact Ha1
    isplitl [Hs1]; · iexact Hs1
    isplitl [HO]; · iexact HO
    isplitl [Ht1]; · iexact Ht1
    isplitr; · iexact Hr1
    isplitl [Hu1]; · iexact Hu1
    iexact Hv1
  iintro ⟨Hd1, HO⟩
  iapply (send_step A2 K 2 c _ (dev10 c) (snd_at 2 _) (rcv_at 2 _) (D := slotM 2) rfl) $$ [Ha2 Hs2 HO Ht2 Hu2]
  · isplitr; · iexact HR
    isplitl [Ha2]; · iexact Ha2
    isplitl [Hs2]; · iexact Hs2
    isplitl [HO]; · iexact HO
    isplitl [Ht2]; · iexact Ht2
    isplitr; · iexact Hr2
    isplitl [Hu2]; · iexact Hu2
    iexact Hv2
  iintro ⟨Hd2, HO⟩
  iapply (send_step A2 K 3 c _ (dev11 c) (snd_at 3 _) (rcv_at 3 _) (D := slotM 3) rfl) $$ [Ha3 Hs3 HO Ht3 Hu3]
  · isplitr; · iexact HR
    isplitl [Ha3]; · iexact Ha3
    isplitl [Hs3]; · iexact Hs3
    isplitl [HO]; · iexact HO
    isplitl [Ht3]; · iexact Ht3
    isplitr; · iexact Hr3
    isplitl [Hu3]; · iexact Hu3
    iexact Hv3
  iintro ⟨Hd3, HO⟩
  iapply (send_step A2 K 4 c _ (dev12 c) (snd_at 4 _) (rcv_at 4 _) (D := slotM 4) rfl) $$ [Ha4 Hs4 HO Ht4 Hu4]
  · isplitr; · iexact HR
    isplitl [Ha4]; · iexact Ha4
    isplitl [Hs4]; · iexact Hs4
    isplitl [HO]; · iexact HO
    isplitl [Ht4]; · iexact Ht4
    isplitr; · iexact Hr4
    isplitl [Hu4]; · iexact Hu4
    iexact Hv4
  iintro ⟨Hd4, HO⟩
  iapply (send_step A2 K 5 c _ (dev13 c) (snd_at 5 _) (rcv_at 5 _) (D := slotM 5) rfl) $$ [Ha5 Hs5 HO Ht5 Hu5]
  · isplitr; · iexact HR
    isplitl [Ha5]; · iexact Ha5
    isplitl [Hs5]; · iexact Hs5
    isplitl [HO]; · iexact HO
    isplitl [Ht5]; · iexact Ht5
    isplitr; · iexact Hr5
    isplitl [Hu5]; · iexact Hu5
    iexact Hv5
  iintro ⟨Hd5, HO⟩
  iapply (send_step A2 K 6 c _ (dev14 c) (snd_at 6 _) (rcv_at 6 _) (D := slotM 6) rfl) $$ [Ha6 Hs6 HO Ht6 Hu6]
  · isplitr; · iexact HR
    isplitl [Ha6]; · iexact Ha6
    isplitl [Hs6]; · iexact Hs6
    isplitl [HO]; · iexact HO
    isplitl [Ht6]; · iexact Ht6
    isplitr; · iexact Hr6
    isplitl [Hu6]; · iexact Hu6
    iexact Hv6
  iintro ⟨Hd6, HO⟩
  ihave HO := (Entails.of_eq (owesX_done (F := F) c)) $$ HO
  iapply (recv_step A2 K 0 c (rcv_at 0 _) (D := slotM 0) rfl) $$ [HO Hc0 Hq0]
  · isplitr; · iexact HR
    isplitl [HO]; · iexact HO
    isplitl [Hc0]; · iexact Hc0
    iexact Hq0
  iintro ⟨HO, Hq0, Hx0⟩
  ihave Hx0 := (Entails.of_eq (recvPay_eq A2 0 c)) $$ Hx0
  iapply (recv_step A2 K 1 c (rcv_at 1 _) (D := slotM 1) rfl) $$ [HO Hc1 Hq1]
  · isplitr; · iexact HR
    isplitl [HO]; · iexact HO
    isplitl [Hc1]; · iexact Hc1
    iexact Hq1
  iintro ⟨HO, Hq1, Hx1⟩
  ihave Hx1 := (Entails.of_eq (recvPay_eq A2 1 c)) $$ Hx1
  iapply (recv_step A2 K 2 c (rcv_at 2 _) (D := slotM 2) rfl) $$ [HO Hc2 Hq2]
  · isplitr; · iexact HR
    isplitl [HO]; · iexact HO
    isplitl [Hc2]; · iexact Hc2
    iexact Hq2
  iintro ⟨HO, Hq2, Hx2⟩
  ihave Hx2 := (Entails.of_eq (recvPay_eq A2 2 c)) $$ Hx2
  iapply (recv_step A2 K 3 c (rcv_at 3 _) (D := slotM 3) rfl) $$ [HO Hc3 Hq3]
  · isplitr; · iexact HR
    isplitl [HO]; · iexact HO
    isplitl [Hc3]; · iexact Hc3
    iexact Hq3
  iintro ⟨HO, Hq3, Hx3⟩
  ihave Hx3 := (Entails.of_eq (recvPay_eq A2 3 c)) $$ Hx3
  iapply (recv_step A2 K 4 c (rcv_at 4 _) (D := slotM 4) rfl) $$ [HO Hc4 Hq4]
  · isplitr; · iexact HR
    isplitl [HO]; · iexact HO
    isplitl [Hc4]; · iexact Hc4
    iexact Hq4
  iintro ⟨HO, Hq4, Hx4⟩
  ihave Hx4 := (Entails.of_eq (recvPay_eq A2 4 c)) $$ Hx4
  iapply (recv_step A2 K 5 c (rcv_at 5 _) (D := slotM 5) rfl) $$ [HO Hc5 Hq5]
  · isplitr; · iexact HR
    isplitl [HO]; · iexact HO
    isplitl [Hc5]; · iexact Hc5
    iexact Hq5
  iintro ⟨HO, Hq5, Hx5⟩
  ihave Hx5 := (Entails.of_eq (recvPay_eq A2 5 c)) $$ Hx5
  iapply (recv_step A2 K 6 c (rcv_at 6 _) (D := slotM 6) rfl) $$ [HO Hc6 Hq6]
  · isplitr; · iexact HR
    isplitl [HO]; · iexact HO
    isplitl [Hc6]; · iexact Hc6
    iexact Hq6
  iintro ⟨HO, Hq6, Hx6⟩
  ihave Hx6 := (Entails.of_eq (recvPay_eq A2 6 c)) $$ Hx6
  ihave Ha7 := (acc_owns c (shareOf 7) (A2 c)) $$ Ha7
  iapply (load_step c accM (shareOf 7) (A2 c)) $$ Ha7
  iintro Ha7
  ihave Ha7 := (owns_acc c (shareOf 7) (A2 c)) $$ Ha7
  iapply (slot_step c 0 (A2 (pe 0 c))) $$ Hx0
  iintro Hx0
  iapply (slot_step c 1 (A2 (pe 1 c))) $$ Hx1
  iintro Hx1
  iapply (slot_step c 2 (A2 (pe 2 c))) $$ Hx2
  iintro Hx2
  iapply (slot_step c 3 (A2 (pe 3 c))) $$ Hx3
  iintro Hx3
  iapply (slot_step c 4 (A2 (pe 4 c))) $$ Hx4
  iintro Hx4
  iapply (slot_step c 5 (A2 (pe 5 c))) $$ Hx5
  iintro Hx5
  iapply (slot_step c 6 (A2 (pe 6 c))) $$ Hx6
  iintro Hx6
  iapply (load_step c M4 fullShare d4) $$ H4
  iintro H4
  iapply (store_step c M4 d4 _) $$ H4
  rw [pay3_outV (A2 c) fun s => A2 (pe s c)]
  iintro H4
  iapply (sent_step A2 K 0 c (snd_at 0 _)) $$ [HO Hd0 Hp0]
  · isplitr; · iexact HR
    isplitl [HO]; · iexact HO
    isplitl [Hd0]; · iexact Hd0
    iexact Hp0
  iintro ⟨HO, Hp0, Ha0⟩
  ihave Ha0 := (Entails.of_eq (sendPay_eq A2 0 c)) $$ Ha0
  iapply (sent_step A2 K 1 c (snd_at 1 _)) $$ [HO Hd1 Hp1]
  · isplitr; · iexact HR
    isplitl [HO]; · iexact HO
    isplitl [Hd1]; · iexact Hd1
    iexact Hp1
  iintro ⟨HO, Hp1, Ha1⟩
  ihave Ha1 := (Entails.of_eq (sendPay_eq A2 1 c)) $$ Ha1
  iapply (sent_step A2 K 2 c (snd_at 2 _)) $$ [HO Hd2 Hp2]
  · isplitr; · iexact HR
    isplitl [HO]; · iexact HO
    isplitl [Hd2]; · iexact Hd2
    iexact Hp2
  iintro ⟨HO, Hp2, Ha2⟩
  ihave Ha2 := (Entails.of_eq (sendPay_eq A2 2 c)) $$ Ha2
  iapply (sent_step A2 K 3 c (snd_at 3 _)) $$ [HO Hd3 Hp3]
  · isplitr; · iexact HR
    isplitl [HO]; · iexact HO
    isplitl [Hd3]; · iexact Hd3
    iexact Hp3
  iintro ⟨HO, Hp3, Ha3⟩
  ihave Ha3 := (Entails.of_eq (sendPay_eq A2 3 c)) $$ Ha3
  iapply (sent_step A2 K 4 c (snd_at 4 _)) $$ [HO Hd4 Hp4]
  · isplitr; · iexact HR
    isplitl [HO]; · iexact HO
    isplitl [Hd4]; · iexact Hd4
    iexact Hp4
  iintro ⟨HO, Hp4, Ha4⟩
  ihave Ha4 := (Entails.of_eq (sendPay_eq A2 4 c)) $$ Ha4
  iapply (sent_step A2 K 5 c (snd_at 5 _)) $$ [HO Hd5 Hp5]
  · isplitr; · iexact HR
    isplitl [HO]; · iexact HO
    isplitl [Hd5]; · iexact Hd5
    iexact Hp5
  iintro ⟨HO, Hp5, Ha5⟩
  ihave Ha5 := (Entails.of_eq (sendPay_eq A2 5 c)) $$ Ha5
  iapply (sent_step A2 K 6 c (snd_at 6 _)) $$ [HO Hd6 Hp6]
  · isplitr; · iexact HR
    isplitl [HO]; · iexact HO
    isplitl [Hd6]; · iexact Hd6
    iexact Hp6
  iintro ⟨HO, Hp6, Ha6⟩
  ihave Ha6 := (Entails.of_eq (sendPay_eq A2 6 c)) $$ Ha6
  imod (close_bar A2 K c) $$ [Hab] with Hab
  · isplitr; · iexact HR
    iexact Hab
  imod (close_send A2 K 0 c) $$ [Hp0] with Hp0
  · isplitr; · iexact HR
    iexact Hp0
  imod (close_recv A2 K 0 c) $$ [Hq0] with Hq0
  · isplitr; · iexact HR
    iexact Hq0
  ihave Hx0 := (slot_owns 0 c (A2 (pe 0 c))) $$ Hx0
  imod (close_send A2 K 1 c) $$ [Hp1] with Hp1
  · isplitr; · iexact HR
    iexact Hp1
  imod (close_recv A2 K 1 c) $$ [Hq1] with Hq1
  · isplitr; · iexact HR
    iexact Hq1
  ihave Hx1 := (slot_owns 1 c (A2 (pe 1 c))) $$ Hx1
  imod (close_send A2 K 2 c) $$ [Hp2] with Hp2
  · isplitr; · iexact HR
    iexact Hp2
  imod (close_recv A2 K 2 c) $$ [Hq2] with Hq2
  · isplitr; · iexact HR
    iexact Hq2
  ihave Hx2 := (slot_owns 2 c (A2 (pe 2 c))) $$ Hx2
  imod (close_send A2 K 3 c) $$ [Hp3] with Hp3
  · isplitr; · iexact HR
    iexact Hp3
  imod (close_recv A2 K 3 c) $$ [Hq3] with Hq3
  · isplitr; · iexact HR
    iexact Hq3
  ihave Hx3 := (slot_owns 3 c (A2 (pe 3 c))) $$ Hx3
  imod (close_send A2 K 4 c) $$ [Hp4] with Hp4
  · isplitr; · iexact HR
    iexact Hp4
  imod (close_recv A2 K 4 c) $$ [Hq4] with Hq4
  · isplitr; · iexact HR
    iexact Hq4
  ihave Hx4 := (slot_owns 4 c (A2 (pe 4 c))) $$ Hx4
  imod (close_send A2 K 5 c) $$ [Hp5] with Hp5
  · isplitr; · iexact HR
    iexact Hp5
  imod (close_recv A2 K 5 c) $$ [Hq5] with Hq5
  · isplitr; · iexact HR
    iexact Hq5
  ihave Hx5 := (slot_owns 5 c (A2 (pe 5 c))) $$ Hx5
  imod (close_send A2 K 6 c) $$ [Hp6] with Hp6
  · isplitr; · iexact HR
    iexact Hp6
  imod (close_recv A2 K 6 c) $$ [Hq6] with Hq6
  · isplitr; · iexact HR
    iexact Hq6
  ihave Hx6 := (slot_owns 6 c (A2 (pe 6 c))) $$ Hx6
  rw [wp_ret]
  imodintro
  isplitl [HO]; · iexact HO
  isplitl [Hab]; · iexact Hab
  isplitl [Hp0 Hp1 Hp2 Hp3 Hp4 Hp5 Hp6]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iexact Hp6
  isplitl [Hq0 Hq1 Hq2 Hq3 Hq4 Hq5 Hq6]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexact Hq6
  isplitl [Hx0 Hx1 Hx2 Hx3 Hx4 Hx5 Hx6]
  · iapply (comm_join (F := F) c)
    rw [bigSep_seven]
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    iexact Hx6
  isplitl [Ha0 Ha1 Ha2 Ha3 Ha4 Ha5 Ha6 Ha7]
  · iexists (A2 c)
    iapply (Entails.of_eq (acc_shares c (A2 c)).symm)
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [H2]; · iexact H2
  isplitl [H3]; · iexact H3
  iexact H4

end Runs

end Cert.AllReduce

end
-- ==== Proof.Table.lean ====
/-
# The scalar table and the blocks it selects

Each device's host code computes a quarter number from the device's number; the kernel's two input windows read it, and their block
at grid point `i` is block `2 q + i` of the device's half of the rows. Here: the table's contents, the windows' side condition at
those contents, and the host code's value.
-/
module

public import proofs.«01_k».proof.Proof.Body
public import proofs.«01_k».proof.Proof.Gen.KernelIdeal.Regions

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The quarter device `c` works on, as the table's word. -/
def qW (c : Dev nD) : BitVec 32 := BitVec.ofNat 32 (c.val / 2)

/-- The table's contents on device `c`. -/
def pfC (c : Dev nD) : pre0.Contents (Elt F)
  | ⟨0, _⟩ => fun _ => qW c
  | ⟨_ + 1, h⟩ => absurd h (Nat.not_lt.2 (Nat.le_add_left _ _))

/-- The block the two input windows take at grid point `i`. -/
def ixC (c : Dev nD) (i : grid0.Coords) : Fin 2 → Nat := ![c.val / 2 * 2 + (i 0).val, 0]

theorem ixC_word (c : Dev nD) (i : Fin 2) : (Scalar.addi (Scalar.muli (qW c) 2#32) (BitVec.ofNat 32 i.val)).toNat = c.val / 2 * 2 + i.val := by
  revert c i; decide

theorem transform_0 (c : Dev nD) (i : grid0.Coords) : cc0_transform_0 inb_S1_S1_0 numel1_S1 (pfC (F := F) c) i = ixC c i := by
  funext a; fin_cases a
  · exact ixC_word c (i 0)
  · rfl

theorem transform_1 (c : Dev nD) (i : grid0.Coords) : cc0_transform_1 inb_S1_S1_0 numel1_S1 (pfC (F := F) c) i = ixC c i := by
  funext a; fin_cases a
  · exact ixC_word c (i 0)
  · rfl

theorem ixC_inb : ∀ (c : Dev nD) (i : grid0.Coords) a, (ixC c i a + 1) * S512x2048.size a ≤ S4096x2048.size a := by decide

theorem ixC_words (c : Dev nD) (i : grid0.Coords) (h : ∀ a, (ixC c i a + 1) * S512x2048.size a ≤ S4096x2048.size a) :
    (Rect.block (s := S4096x2048) S512x2048.size (ixC c i) h).WholeWords (EltTy.packing .bf16) := by
  revert c i; decide

theorem ok_pfC (c : Dev nD) : ok0 (pfC (F := F) c) := by
  unfold ok0
  refine ⟨fun i => ?_, fun i => ?_⟩
  · rw [transform_0]; exact ⟨ixC_inb c i, .inr (ixC_words c i _)⟩
  · rw [transform_1]; exact ⟨ixC_inb c i, .inr (ixC_words c i _)⟩

/-- The admissible contents, per device. -/
def adm (c : Dev nD) : (p : Fin 1) → (pcfgs (F := F) p).Adm
  | ⟨0, _⟩ => ⟨pfC c, ok_pfC c⟩
  | ⟨_ + 1, h⟩ => absurd h (Nat.not_lt.2 (Nat.le_add_left _ _))

variable (m : (ℓ : Loc nD τ sig) → Buf (Elt F) ℓ)

theorem host_word (c : Dev nD) :
    (addi (muli (constantI S_ 32 2#32) (Host.remui (Host.divui (constantI S_ 32 (Dev.word c)) (constantI S_ 32 4#32)) (constantI S_ 32 2#32)))
      (Host.remui (Host.divui (constantI S_ 32 (Dev.word c)) (constantI S_ 32 2#32)) (constantI S_ 32 2#32)) : IVec S_ 32) = fun _ => qW c := by
  funext i
  show IntOp.addi (IntOp.muli 2#32 (IntOp.remui .host (IntOp.divui .host (Dev.word c) 4#32) 2#32))
    (IntOp.remui .host (IntOp.divui .host (Dev.word c) 2#32) 2#32) = qW c
  revert c; decide

/-- What the host code leaves in the table's buffer. -/
theorem V1_table (c : Dev nD) : V1 m c main_v11 = fun _ => qW c := by
  show StableHlo.after (hostOps0 c) (V0 m c) (Proc.devRef .tc main_v11) = _
  unfold hostOps0
  after_results
  exact funext fun i => congrFun (host_word c) _

end Cert.AllReduce
-- ==== Proof.Region.lean ====
/-
# The kernel region's proof data

What each device adds up over its two blocks, the invariant between the grid steps, and the body's obligation at both steps.
-/
module

public import proofs.«01_k».proof.Proof.Table
public import Idealize.ShloMosaic.Lib.Pipeline.Frame
public import Idealize.ShloMosaic.Lib.Pipeline.Regions

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device computes -/

/-- Row `r` of block `i` of device `c`, among the device's rows. -/
def rowC (c : Dev nD) (i : Fin 2) (r : Fin 512) : Fin 4096 :=
  ⟨c.val / 2 * 1024 + i.val * 512 + r.val, by have hc : c.val < 8 := c.isLt; have := i.isLt; have := r.isLt; omega⟩

/-- An index of the device's array. -/
def at2 (r : Fin 4096) (k : Fin 2048) : S4096x2048.Idx
  | ⟨0, _⟩ => r
  | ⟨1, _⟩ => k
  | ⟨_ + 2, h⟩ => absurd h (Nat.not_lt.2 (Nat.le_add_left _ _))

/-- Block `i` of a device's array. -/
def blkOf (c : Dev nD) (i : Fin 2) (X : Vec F S4096x2048 .bf16) : Vec F S512x2048 .bf16 :=
  fun j => X (at2 (rowC c i (j 0)) (j 1))

variable (m : (ℓ : Loc nD τ sig) → Buf (Elt F) ℓ)

/-- The two input arrays of device `c`. -/
def xArr (c : Dev nD) : Vec F S4096x2048 .bf16 := m ((c : Thread nD τ).loc main_arg0)
def dArr (c : Dev nD) : Vec F S4096x2048 .bf16 := m ((c : Thread nD τ).loc main_arg1)

/-- The sums after the first block, -/
def acc1 (c : Dev nD) : Vec F S2x2048 .f32 := stepF (blkOf c 0 (xArr m c)) (blkOf c 0 (dArr m c)) k0_pay2
/-- after both, which is what the device sends, -/
def acc2 (c : Dev nD) : Vec F S2x2048 .f32 := stepF (blkOf c 1 (xArr m c)) (blkOf c 1 (dArr m c)) (acc1 m c)
/-- and the total the device stores. -/
def total (c : Dev nD) : Vec F S2x2048 .f32 := outV (acc2 m c) fun s => acc2 m (pe s c)

/-! ## The invariant -/

/-- What device `c` needs only at the last step. -/
def left (c : Dev nD) : sProp 𝕄 :=
  iprop(cred (tallyAt (barCell c) () 7) ∗ atPos ER (barCell c) 0 ∅ 0
    ∗ (bigSep Finset.univ fun s : Fin 7 => dutyTok ER (sendCell s c) 0 0)
    ∗ (bigSep Finset.univ fun s : Fin 7 => dutyTok ER (recvCell s (pe s c)) 0 0)
    ∗ (bigSep Finset.univ fun s : Fin 7 => reached ER (sendCell s c) 0)
    ∗ (bigSep Finset.univ fun s : Fin 7 => cred (tallyAt (recvCell s c) () N))
    ∗ (bigSep Finset.univ fun s : Fin 7 => atPos ER (sendCell s c) 0 ∅ 0)
    ∗ (bigSep Finset.univ fun s : Fin 7 => atPos ER (recvCell s c) 0 ∅ 0))

/-- What the device brings into the region beside its arrays and scratch. -/
def start (c : Dev nD) : sProp 𝕄 :=
  iprop(levAts L lv ∗ (bigSep Finset.univ fun s : Fin 7 => dutyTok ER (barCell (pe s c)) 0 s)
    ∗ (bigSep Finset.univ fun s : Fin 7 => reached ER (recvCell s c) 0) ∗ left c)

/-- Before the first step, -/
def Φ₀ (c : Dev nD) : sProp 𝕄 :=
  iprop((∃ K, records (acc2 m) K) ∗ start c ∗ (∃ f, accAt c fullShare f) ∗ commAny c)
/-- between the two, -/
def Φ₁ (c : Dev nD) : sProp 𝕄 :=
  iprop((∃ K, records (acc2 m) K) ∗ levAts L lv ∗ left c ∗ accAt c fullShare (acc1 m c))
/-- and at the end. -/
def Φ₂ (c : Dev nD) : sProp 𝕄 :=
  iprop(semVal (barCell c) 0 ∗ (bigSep Finset.univ fun s : Fin 7 => semVal (sendCell s c) 0)
    ∗ (bigSep Finset.univ fun s : Fin 7 => semVal (recvCell s c) 0) ∗ commAny c ∗ (∃ f, accAt c fullShare f))

/-- The pipeline on device `c`, at its table. -/
abbrev cfgC (c : Dev nD) : Cfg sig Λ₀ := Pipeline.pinD (pcfgs (F := F)) adm c 0

/-- The grid's coordinate at a point. -/
def stepOf (t : Fin grid0.N) : Fin 2 := ⟨t.val, t.isLt.trans_eq N_0⟩

def dats (p : Fin 1) (c : Dev nD) : Dat τ (Elt F) Unit ℕ UU ℕ (Pipeline.pinD (pcfgs (F := F)) adm c p) c :=
  match p with
  | ⟨0, _⟩ =>
  { A := fun w => match w with
      | ⟨0, _⟩ => m ((c : Thread nD τ).loc main_arg0)
      | ⟨1, _⟩ => m ((c : Thread nD τ).loc main_arg1)
      | ⟨2, _⟩ => m ((c : Thread nD τ).loc main_v12)
      | ⟨_ + 3, h⟩ => absurd h (Nat.not_lt.2 (Nat.le_add_left _ _))
    after := fun w t => match w with
      | ⟨0, _⟩ => blkOf c (stepOf t) (xArr m c)
      | ⟨1, _⟩ => blkOf c (stepOf t) (dArr m c)
      | ⟨2, _⟩ => total m c
      | ⟨_ + 3, h⟩ => absurd h (Nat.not_lt.2 (Nat.le_add_left _ _))
    Φ := fun t => match t with
      | ⟨0, _⟩ => Φ₀ m c
      | ⟨1, _⟩ => Φ₁ m c
      | ⟨_ + 2, _⟩ => Φ₂ c
    q := fun _ => fullShare
    owed := fun t => match t with
      | ⟨0, _⟩ => O₀ c
      | ⟨1, _⟩ => owedR c 0
      | ⟨_ + 2, _⟩ => 0 }
  | ⟨_ + 1, h⟩ => absurd h (Nat.not_lt.2 (Nat.le_add_left _ _))

theorem index_0 (c : Dev nD) (t : Fin grid0.N) : ((cfgC (F := F) c).win (0 : Fin 3)).index t = ixC c (grid0.coords t) := transform_0 c _
theorem index_1 (c : Dev nD) (t : Fin grid0.N) : ((cfgC (F := F) c).win (1 : Fin 3)).index t = ixC c (grid0.coords t) := transform_1 c _

theorem coords_0 (t : Fin grid0.N) : ((grid0.coords t) 0).val = t.val := by
  revert t; decide

theorem ixC_moves : ∀ c : Dev nD, ixC c (grid0.coords t0_1) ≠ ixC c (grid0.coords t0_0) := by decide

theorem fetch_0 (c : Dev nD) (t : Fin grid0.N) : ((cfgC (F := F) c).win (0 : Fin 3)).fetch t = true := by
  rcases fin_N0 t with rfl | rfl
  · rfl
  · refine Bool.and_eq_true_iff.mpr ⟨rfl, Bool.or_eq_true_iff.mpr (.inr (decide_eq_true ⟨Nat.one_pos, fun h => ixC_moves c ?_⟩))⟩
    exact (index_0 (F := F) c t0_1).symm.trans (h.trans (index_0 (F := F) c t0_0))

theorem fetch_1 (c : Dev nD) (t : Fin grid0.N) : ((cfgC (F := F) c).win (1 : Fin 3)).fetch t = true := by
  rcases fin_N0 t with rfl | rfl
  · rfl
  · refine Bool.and_eq_true_iff.mpr ⟨rfl, Bool.or_eq_true_iff.mpr (.inr (decide_eq_true ⟨Nat.one_pos, fun h => ixC_moves c ?_⟩))⟩
    exact (index_1 (F := F) c t0_1).symm.trans (h.trans (index_1 (F := F) c t0_0))

/-- The block's rows among the array's. -/
theorem ixC_row (c : Dev nD) (t : Fin grid0.N) (j : S512x2048.Idx) (a : Fin 2) :
    ixC c (grid0.coords t) a * S512x2048.size a + (j a).val = (at2 (rowC c (stepOf t) (j 0)) (j 1) a).val := by
  fin_cases a
  · show (c.val / 2 * 2 + ((grid0.coords t) 0).val) * 512 + (j 0).val = c.val / 2 * 1024 + t.val * 512 + (j 0).val
    rw [coords_0]; omega
  · show 0 * 2048 + (j 1).val = (j 1).val
    omega

theorem before_0 (c : Dev nD) (t : Fin grid0.N) (d : ((cfgC (F := F) c).win (0 : Fin 3)).block.Idx → Elt F ((cfgC (F := F) c).win (0 : Fin 3)).elt) :
    (dats m 0 c).before (0 : Fin 3) t d = blkOf c (stepOf t) (xArr m c) := by
  rw [Dat.before, if_pos (fetch_0 c t)]
  funext j
  refine congrArg (xArr m c) (funext fun a => Fin.ext ?_)
  refine Eq.trans ?_ (ixC_row c t j a)
  rw [← index_0 (F := F) c t]
  exact ValueKit.view_emb_slice_whole_unit_val main_arg0 _ _ _ _ a

theorem before_1 (c : Dev nD) (t : Fin grid0.N) (d : ((cfgC (F := F) c).win (1 : Fin 3)).block.Idx → Elt F ((cfgC (F := F) c).win (1 : Fin 3)).elt) :
    (dats m 0 c).before (1 : Fin 3) t d = blkOf c (stepOf t) (dArr m c) := by
  rw [Dat.before, if_pos (fetch_1 c t)]
  funext j
  refine congrArg (dArr m c) (funext fun a => Fin.ext ?_)
  refine Eq.trans ?_ (ixC_row c t j a)
  rw [← index_1 (F := F) c t]
  exact ValueKit.view_emb_slice_whole_unit_val main_arg1 _ _ _ _ a

/-! ## The body's obligation -/

theorem owesAt_in (c : Dev nD) (t : Fin ((cfgC (F := F) c).N + 1)) (O : CellTallies nD τ sig Unit) (hO : (dats m 0 c).owed t = O) :
    (owesX c O : sProp 𝕄) ⊢ (dats m 0 c).owesAt () t := by
  unfold owesX Dat.owesAt Pipeline.owesWithin Dat.bound
  rw [hO]
  iintro ⟨%W, H⟩
  iexists W
  isplitr
  · ipureintro; exact fun _ _ => Or.inl trivial
  iexact H

theorem owesAt_out (c : Dev nD) (t : Fin ((cfgC (F := F) c).N + 1)) (O : CellTallies nD τ sig Unit) (hO : (dats m 0 c).owed t = O) :
    (dats m 0 c).owesAt () t ⊢ (owesX c O : sProp 𝕄) := by
  unfold owesX Dat.owesAt Pipeline.owesWithin
  rw [hO]
  iintro ⟨%W, -, H⟩
  iexists W
  iexact H

theorem oblige0 (c : Dev nD) :
    iprop(Φ₀ m c ∗ (dats m 0 c).owesAt () (t0_0 : Fin (cfgC (F := F) c).N).castSucc
        ∗ (∃ d, owns (c : Thread nD τ) (((cfgC (F := F) c).win (0 : Fin 3)).stage ((cfgC (F := F) c).slots t0_0 (0 : Fin 3))) fullShare ((dats m 0 c).before (0 : Fin 3) t0_0 d))
        ∗ (∃ d, owns (c : Thread nD τ) (((cfgC (F := F) c).win (1 : Fin 3)).stage ((cfgC (F := F) c).slots t0_0 (1 : Fin 3))) fullShare ((dats m 0 c).before (1 : Fin 3) t0_0 d))
        ∗ (∃ d, owns (c : Thread nD τ) (((cfgC (F := F) c).win (2 : Fin 3)).stage ((cfgC (F := F) c).slots t0_0 (2 : Fin 3))) fullShare ((dats m 0 c).before (2 : Fin 3) t0_0 d)))
      ⊢ wp frame (wpE (defs₀ (F := F)) 𝒱₀ (c : Thread nD τ) none) Set.univ
          (defs₀ (F := F) .tc (cfgC (F := F) c).body ((cfgC (F := F) c).bodyArgs t0_0 ((cfgC (F := F) c).slots t0_0)))
          (fun _ => iprop(Φ₁ m c ∗ (dats m 0 c).owesAt () (t0_0 : Fin (cfgC (F := F) c).N).succ
            ∗ owns (c : Thread nD τ) (((cfgC (F := F) c).win (0 : Fin 3)).stage ((cfgC (F := F) c).slots t0_0 (0 : Fin 3))) fullShare (blkOf c 0 (xArr m c))
            ∗ owns (c : Thread nD τ) (((cfgC (F := F) c).win (1 : Fin 3)).stage ((cfgC (F := F) c).slots t0_0 (1 : Fin 3))) fullShare (blkOf c 0 (dArr m c))
            ∗ (∃ d, owns (c : Thread nD τ) (((cfgC (F := F) c).win (2 : Fin 3)).stage ((cfgC (F := F) c).slots t0_0 (2 : Fin 3))) fullShare ((dats m 0 c).before (2 : Fin 3) t0_0 d)))) := by
  simp only [before_0, before_1]
  unfold Φ₀ start
  iintro ⟨⟨⟨%K, #HR⟩, ⟨#Hlev, HtB, HrV, Hleft⟩, Hacc, Hcomm⟩, HO, ⟨%d0, Hx⟩, ⟨%d1, Hy⟩, Ho⟩
  ihave HO := (owesAt_out m c _ (O₀ c) rfl) $$ HO
  ihave Hsl := (comm_split c) $$ Hcomm
  iapply (wp_wand_r frame (wpE (defs₀ (F := F)) 𝒱₀ (c : Thread nD τ) none) Set.univ)
  isplitl [HtB HrV Hsl HO Hacc Hx Hy]
  · iapply (step0 (acc2 m) K (grid0.coords t0_0) _ _ _ _ _ _ _ _ _ _ (by decide) (by decide) c (blkOf c 0 (xArr m c)) (blkOf c 0 (dArr m c)))
    isplitr; · iexact HR
    isplitl [HtB]; · iexact HtB
    isplitl [Hsl]; · iexact Hsl
    isplitl [HrV]; · iexact HrV
    isplitl [HO]; · iexact HO
    isplitl [Hacc]; · iexact Hacc
    isplitl [Hx]; · iexact Hx
    iexact Hy
  iintro %_ ⟨HO, Hacc, Hx, Hy⟩
  unfold Φ₁
  isplitl [Hleft Hacc]
  · isplitr; · iexists K; iexact HR
    isplitr; · iexact Hlev
    isplitl [Hleft]; · iexact Hleft
    iexact Hacc
  isplitl [HO]
  · iapply (owesAt_in m c _ (owedR c 0) rfl) $$ HO
  isplitl [Hx]; · iexact Hx
  isplitl [Hy]; · iexact Hy
  iexact Ho

theorem oblige1 (c : Dev nD) :
    iprop(Φ₁ m c ∗ (dats m 0 c).owesAt () (t0_1 : Fin (cfgC (F := F) c).N).castSucc
        ∗ (∃ d, owns (c : Thread nD τ) (((cfgC (F := F) c).win (0 : Fin 3)).stage ((cfgC (F := F) c).slots t0_1 (0 : Fin 3))) fullShare ((dats m 0 c).before (0 : Fin 3) t0_1 d))
        ∗ (∃ d, owns (c : Thread nD τ) (((cfgC (F := F) c).win (1 : Fin 3)).stage ((cfgC (F := F) c).slots t0_1 (1 : Fin 3))) fullShare ((dats m 0 c).before (1 : Fin 3) t0_1 d))
        ∗ (∃ d, owns (c : Thread nD τ) (((cfgC (F := F) c).win (2 : Fin 3)).stage ((cfgC (F := F) c).slots t0_1 (2 : Fin 3))) fullShare ((dats m 0 c).before (2 : Fin 3) t0_1 d)))
      ⊢ wp frame (wpE (defs₀ (F := F)) 𝒱₀ (c : Thread nD τ) none) Set.univ
          (defs₀ (F := F) .tc (cfgC (F := F) c).body ((cfgC (F := F) c).bodyArgs t0_1 ((cfgC (F := F) c).slots t0_1)))
          (fun _ => iprop(Φ₂ c ∗ (dats m 0 c).owesAt () (t0_1 : Fin (cfgC (F := F) c).N).succ
            ∗ owns (c : Thread nD τ) (((cfgC (F := F) c).win (0 : Fin 3)).stage ((cfgC (F := F) c).slots t0_1 (0 : Fin 3))) fullShare (blkOf c 1 (xArr m c))
            ∗ owns (c : Thread nD τ) (((cfgC (F := F) c).win (1 : Fin 3)).stage ((cfgC (F := F) c).slots t0_1 (1 : Fin 3))) fullShare (blkOf c 1 (dArr m c))
            ∗ owns (c : Thread nD τ) (((cfgC (F := F) c).win (2 : Fin 3)).stage ((cfgC (F := F) c).slots t0_1 (2 : Fin 3))) fullShare (total m c))) := by
  simp only [before_0, before_1]
  unfold Φ₁ left
  iintro ⟨⟨⟨%K, #HR⟩, #Hlev, ⟨H1, H2, H3, H4, H5, H6, H7, H8⟩, Hacc⟩, HO, ⟨%d0, Hx⟩, ⟨%d1, Hy⟩, ⟨%d2, Ho⟩⟩
  ihave HO := (owesAt_out m c _ (owedR c 0) rfl) $$ HO
  iapply (wp_wand_r frame (wpE (defs₀ (F := F)) 𝒱₀ (c : Thread nD τ) none) Set.univ)
  isplitl [H1 H2 H3 H4 H5 H6 H7 H8 HO Hacc Hx Hy Ho]
  · iapply (step1 (acc2 m) K (grid0.coords t0_1) _ _ _ _ _ _ _ _ _ _ (by decide) (by decide) c (blkOf c 1 (xArr m c)) (blkOf c 1 (dArr m c)) (acc1 m c) rfl)
    isplitr; · iexact HR
    isplitr; · iexact Hlev
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hacc]; · iexact Hacc
    isplitl [Hx]; · iexact Hx
    isplitl [Hy]; · iexact Hy
    iexists _; iexact Ho
  iintro %_ ⟨HO, Hb, Hs, Hr, Hcomm, Hacc, Hx, Hy, Ho⟩
  unfold Φ₂
  isplitl [Hb Hs Hr Hcomm Hacc]
  · isplitl [Hb]; · iexact Hb
    isplitl [Hs]; · iexact Hs
    isplitl [Hr]; · iexact Hr
    isplitl [Hcomm]; · iexact Hcomm
    iexact Hacc
  isplitl [HO]
  · iapply (owesAt_in m c _ 0 rfl) $$ HO
  isplitl [Hx]; · iexact Hx
  isplitl [Hy]; · iexact Hy
  iexact Ho

theorem idle_eq (c : Dev nD) : (cfgC (F := F) c).idle = idle0 := rfl
theorem coords_eq (c : Dev nD) (t : Fin grid0.N) : (cfgC (F := F) c).grid.coords t = grid0.coords t := rfl
theorem idle_out0 (c : Dev nD) : (cfgC (F := F) c).idle (2 : Fin 3) ((cfgC (F := F) c).grid.coords t0_0) = true := by
  rw [idle_eq, coords_eq]
  decide
theorem idle_out1 (c : Dev nD) : (cfgC (F := F) c).idle (2 : Fin 3) ((cfgC (F := F) c).grid.coords t0_1) = false := by
  rw [idle_eq, coords_eq]
  decide

theorem leaves_out1 (c : Dev nD) : (dats m 0 c).leavesExact (2 : Fin 3) t0_1
    = owns (c : Thread nD τ) (((cfgC (F := F) c).win (2 : Fin 3)).stage ((cfgC (F := F) c).slots t0_1 (2 : Fin 3))) fullShare (total m c) := by
  unfold Dat.leavesExact
  rw [idle_out1]
  rfl

theorem body_obligation (c : Dev nD) : BodyObligation (dats (F := F) m 0 c) (defs₀ (F := F)) 𝒱₀ () Set.univ := fun t => by
  rcases fin_N0 t with rfl | rfl
  · refine (Entails.of_eq ?_).trans ((oblige0 m c).trans (wp_mono _ _ _ fun _ => Entails.of_eq ?_))
    · exact congrArg (fun Z => iprop(Φ₀ m c ∗ (dats m 0 c).owesAt () (t0_0 : Fin (cfgC (F := F) c).N).castSucc ∗ Z)) (bigSep_W0 _)
    · refine congrArg (fun Z => iprop(Φ₁ m c ∗ (dats m 0 c).owesAt () (t0_0 : Fin (cfgC (F := F) c).N).succ ∗ Z)) (Eq.trans ?_ (bigSep_W0 _).symm)
      exact congrArg₂ (fun A B => iprop(A ∗ B)) rfl (congrArg₂ (fun A B => iprop(A ∗ B)) rfl
        ((dats m 0 c).leavesExact_idle (2 : Fin 3) t0_0 (idle_out0 c) rfl).symm)
  · refine (Entails.of_eq ?_).trans ((oblige1 m c).trans (wp_mono _ _ _ fun _ => Entails.of_eq ?_))
    · exact congrArg (fun Z => iprop(Φ₁ m c ∗ (dats m 0 c).owesAt () (t0_1 : Fin (cfgC (F := F) c).N).castSucc ∗ Z)) (bigSep_W0 _)
    · refine congrArg (fun Z => iprop(Φ₂ c ∗ (dats m 0 c).owesAt () (t0_1 : Fin (cfgC (F := F) c).N).succ ∗ Z)) (Eq.trans ?_ (bigSep_W0 _).symm)
      exact congrArg₂ (fun A B => iprop(A ∗ B)) rfl (congrArg₂ (fun A B => iprop(A ∗ B)) rfl (leaves_out1 m c).symm)

end Cert.AllReduce
-- ==== Proof.Launch.lean ====
/-
# The launch

Every cell's invariant is made at the launch, the copy cells' without their counters, which the region's entry brings.
The tokens are dealt to the devices that pay with them, and each device gets the credit for what the others owe it.
-/
module

public import proofs.«01_k».proof.Proof.Region

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The tokens -/

/-- A device's tokens: its barrier cell's seven, and one for each copy cell. -/
def tokOf (p : Dev nD × (Fin 7 ⊕ (Fin 7 ⊕ Fin 7))) : GSem nD τ sig × ℕ × Fin 7 :=
  match p.2 with
  | .inl s => (barCell p.1, 0, s)
  | .inr k => (((p.1 : Thread nD τ), osem k), 0, 0)

theorem osem_ne_bar : ∀ k, osem k ≠ SemLoc.reg barS := by decide

theorem tokOf_injective : Function.Injective tokOf := by
  rintro ⟨a, x⟩ ⟨b, y⟩ h
  rcases x with s | k <;> rcases y with t | l
  · have h1 : a = b := congrArg (fun g : GSem nD τ sig × ℕ × Fin 7 => g.1.1.1) h
    have h2 : s = t := congrArg (fun g : GSem nD τ sig × ℕ × Fin 7 => g.2.2) h
    rw [h1, h2]
  · exact absurd (congrArg (fun g : GSem nD τ sig × ℕ × Fin 7 => g.1.2) h).symm (osem_ne_bar l)
  · exact absurd (congrArg (fun g : GSem nD τ sig × ℕ × Fin 7 => g.1.2) h) (osem_ne_bar k)
  · have h1 : a = b := congrArg (fun g : GSem nD τ sig × ℕ × Fin 7 => g.1.1.1) h
    have h2 : osem k = osem l := congrArg (fun g : GSem nD τ sig × ℕ × Fin 7 => g.1.2) h
    rw [h1, osem_injective h2]

def toks : Finset (GSem nD τ sig × ℕ × Fin 7) := Finset.univ.map ⟨tokOf, tokOf_injective⟩

theorem disjoint_cells : Disjoint barCells scCells := by
  rw [Finset.disjoint_left]
  intro g h₁ h₂
  obtain ⟨c, -, rfl⟩ := Finset.mem_map.mp h₁
  obtain ⟨p, -, h⟩ := Finset.mem_map.mp h₂
  exact osem_ne_bar p.2 (congrArg (fun g : GSem nD τ sig => g.2) h)

/-- The tokens a device pays with: its partners' barrier cells', its own send cells', its partners' receive cells'. -/
def payTok (c : Dev nD) : sProp 𝕄 :=
  iprop((bigSep Finset.univ fun s : Fin 7 => dutyTok ER (barCell (pe s c)) 0 s)
    ∗ (bigSep Finset.univ fun s : Fin 7 => dutyTok ER (sendCell s c) 0 0)
    ∗ (bigSep Finset.univ fun s : Fin 7 => dutyTok ER (recvCell s (pe s c)) 0 0))

/-- A family over devices and slots, each device taking its partner's member. -/
theorem around (Φ : Fin 7 → Dev nD → sProp 𝕄) :
    (bigSep Finset.univ fun c : Dev nD => bigSep Finset.univ fun s : Fin 7 => Φ s c)
      = bigSep Finset.univ fun c : Dev nD => bigSep Finset.univ fun s : Fin 7 => Φ s (pe s c) := by
  have e (s : Fin 7) : bigSep Finset.univ (fun c : Dev nD => Φ s c) = bigSep Finset.univ fun c : Dev nD => Φ s (pe s c) :=
    bigSep_univ_equiv (peEquiv s) (fun c => Φ s c)
  simp only [bigSep_seven, bigSep_sep']
  rw [e 0, e 1, e 2, e 3, e 4, e 5, e 6]

theorem toks_dealt : bigSep toks (fun x => (dutyTok ER x.1 x.2.1 x.2.2 : sProp 𝕄)) ⊢ bigSep Finset.univ fun c : Dev nD => payTok c := by
  have e : bigSep toks (fun x => (dutyTok ER x.1 x.2.1 x.2.2 : sProp 𝕄))
      = bigSep Finset.univ fun c : Dev nD => iprop((bigSep Finset.univ fun s : Fin 7 => dutyTok ER (barCell c) 0 s)
        ∗ (bigSep Finset.univ fun s : Fin 7 => dutyTok ER (sendCell s c) 0 0)
        ∗ (bigSep Finset.univ fun s : Fin 7 => dutyTok ER (recvCell s c) 0 0)) := by
    unfold toks
    rw [bigSep_map, bigSep_univ_prod]
    refine bigSep_congr fun c _ => ?_
    rw [bigSep_univ_sum, bigSep_univ_sum]
    rfl
  rw [e]
  unfold payTok
  rw [bigSep_sep', bigSep_sep', bigSep_sep', bigSep_sep', around (fun s c => (dutyTok ER (barCell c) 0 s : sProp 𝕄)),
    around (fun s c => (dutyTok ER (recvCell s c) 0 0 : sProp 𝕄))]

/-! ## The credit -/

theorem filter_zero : (Finset.univ.filter fun t : Fin 7 => 0 ≤ t.val) = Finset.univ := by decide

theorem sum_apply' {I : Type} (S : Finset I) (f : I → CellTallies nD τ sig Unit) (g : GSem nD τ sig) (u : Unit) :
    (∑ s ∈ S, f s) g u = ∑ s ∈ S, f s g u := by
  classical
  induction S using Finset.induction_on with
  | empty => rfl
  | insert a S ha ih => rw [Finset.sum_insert ha, Finset.sum_insert ha, Pi.add_apply, Finsupp.add_apply, ih]

theorem pe_eq_iff (s : Fin 7) (d c : Dev nD) : c = pe s d ↔ d = pe s c :=
  ⟨fun h => by rw [h, pe_pe], fun h => by rw [h, pe_pe]⟩

theorem rcvS_injective : Function.Injective rcvS := by decide

theorem owed_bar (d c : Dev nD) : O₀ d (barCell c) () = ∑ s : Fin 7, if d = pe s c then 1 else 0 := by
  unfold O₀ owedR owedB
  rw [filter_zero, Pi.add_apply, Finsupp.add_apply, sum_apply', sum_apply',
    Finset.sum_eq_zero (f := fun s : Fin 7 => (tallyAt (recvCell s (pe s d)) () N : CellTallies nD τ sig Unit) (barCell c) ()) fun s _ => by
      rw [tallyAt_apply, if_neg]; rintro ⟨h, -⟩
      exact osem_ne_bar (.inr s) (congrArg (fun g : GSem nD τ sig => g.2) h).symm, Nat.zero_add]
  refine Finset.sum_congr rfl fun s _ => ?_
  rw [tallyAt_apply]
  refine if_congr ?_ rfl rfl
  rw [← pe_eq_iff]
  exact ⟨fun h => congrArg (fun g : GSem nD τ sig => g.1.1) h.1, fun h => ⟨by rw [h], rfl⟩⟩

theorem owed_recv (s : Fin 7) (d c : Dev nD) : O₀ d (recvCell s c) () = if d = pe s c then N else 0 := by
  unfold O₀ owedR owedB
  rw [filter_zero, Pi.add_apply, Finsupp.add_apply, sum_apply', sum_apply',
    Finset.sum_eq_zero (f := fun t : Fin 7 => (tallyAt (barCell (pe t d)) () 1 : CellTallies nD τ sig Unit) (recvCell s c) ()) fun t _ => by
      rw [tallyAt_apply, if_neg]; rintro ⟨h, -⟩
      exact osem_ne_bar (.inr s) (congrArg (fun g : GSem nD τ sig => g.2) h), Nat.add_zero,
    Finset.sum_eq_single s (fun t _ ht => by
      rw [tallyAt_apply, if_neg]; rintro ⟨h, -⟩
      have h2 : SemLoc.dma (rcvS s) = SemLoc.dma (rcvS t) := congrArg (fun g : GSem nD τ sig => g.2) h
      injection h2 with h3
      exact ht (rcvS_injective h3).symm) (fun h => absurd (Finset.mem_univ s) h), tallyAt_apply]
  refine if_congr ?_ rfl rfl
  rw [← pe_eq_iff]
  exact ⟨fun h => congrArg (fun g : GSem nD τ sig => g.1.1) h.1, fun h => ⟨by rw [h], rfl⟩⟩

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => (Finset.sum_ite_eq' Finset.univ (pe s c) fun _ => 1).trans (if_pos (Finset.mem_univ _))]
  decide

theorem launch_recv (s : Fin 7) (c : Dev nD) :
    tallyOn (recvCell s c) (launchCredit (Pipeline.owing O₀) 0 (recvCell s c)) = (tallyAt (recvCell s c) () N : CellTallies nD τ sig Unit) := by
  unfold tallyAt; refine congrArg _ (Finsupp.ext fun u => ?_); cases u
  rw [Pipeline.launchCredit_owing, Finsupp.single_eq_same, Finset.sum_congr rfl fun d _ => owed_recv s d c,
    Finset.sum_ite_eq' Finset.univ (pe s c) fun _ => N, if_pos (Finset.mem_univ _)]

def rcvEmb : Fin 7 ↪ SemLoc sig := ⟨fun s => .dma (rcvS s), fun a b h => by injection h with h; exact rcvS_injective h⟩

/-- The credit a device waits with. -/
def credits (c : Dev nD) : sProp 𝕄 :=
  iprop(cred (tallyAt (barCell c) () 7) ∗ bigSep Finset.univ fun s : Fin 7 => cred (tallyAt (recvCell s c) () N))

theorem creds (c : Dev nD) : (Pipeline.launchCred O₀ c : sProp 𝕄) ⊢ credits c := by
  unfold Pipeline.launchCred credits
  rw [bigSep_univ_at _ (SemLoc.reg barS), launch_bar]
  refine sep_mono_right ?_
  refine (show _ ⊢ _ from bigSep_subset (t := Finset.univ.map rcvEmb) fun x hx => ?_).trans (Entails.of_eq ?_)
  · obtain ⟨s, -, rfl⟩ := Finset.mem_map.mp hx
    exact Finset.mem_erase.mpr ⟨osem_ne_bar (.inr s), Finset.mem_univ _⟩
  · rw [bigSep_map]
    exact bigSep_congr fun s _ => congrArg _ (launch_recv s c)

/-! ## The launch element -/

theorem cell_injective : Function.Injective (Pipeline.PerCore.cellOf (nD := nD) (τ := τ) (Pipeline.pinD (pcfgs (F := F)) adm)) :=
  Pipeline.PerCore.cellOf_injective _ (fun c p => by
      obtain rfl : p = 0 := Subsingleton.elim p 0
      exact Pipeline.specSemsDistinct_of_nodup _ (semsDistinct 0))
    fun c p p' h => absurd (Subsingleton.elim p p') h

def u₀ : UU :=
  (initOf (Pipeline.PerCore.cells (Pipeline.pinD (pcfgs (F := F)) adm) cell_injective)
      (Pipeline.PerCore.launchToks (Pipeline.pinD (pcfgs (F := F)) adm) cell_injective),
    launchOf barCells scCells toks)

/-- The protocol's part of the launch element, kept by device 0 until the deal. -/
def parked (c : Dev nD) : sProp 𝕄 := if c = 0 then BI.own (ER (launchOf barCells scCells toks)) else iprop(emp)

theorem parked_all : bigSep Finset.univ (parked (F := F)) = BI.own (ER (launchOf barCells scCells toks)) := by
  rw [bigSep_univ_at _ 0, bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem fund_all : (ownU (u₀ (F := F)) : sProp 𝕄)
    ⊢ |={Set.univ}=> iprop(BI.own (EP (initOf (Pipeline.PerCore.cells (Pipeline.pinD (pcfgs (F := F)) adm) cell_injective)
        (Pipeline.PerCore.launchToks (Pipeline.pinD (pcfgs (F := F)) adm) cell_injective))) ∗ bigSep Finset.univ (parked (F := F))) := by
  rw [parked_all]
  unfold u₀
  iintro Hu
  ihave H := (ownU_pair _ _) $$ Hu
  icases H with ⟨HP, HX⟩
  imodintro
  isplitl [HP]; · iexact HP
  iexact HX

/-! ## The deal -/

variable (m : (ℓ : Loc nD τ sig) → Buf (Elt F) ℓ) (ρ : Dev nD → PrngReg)

/-- The rights to open a device's copy cells. -/
def rights (c : Dev nD) : sProp 𝕄 :=
  iprop((bigSep Finset.univ fun s : Fin 7 => openTok ER (sendCell s c)) ∗ (bigSep Finset.univ fun s : Fin 7 => openTok ER (recvCell s c)))

/-- What rides beside a device's buffers up to the region. -/
def ride (c : Dev nD) : sProp 𝕄 :=
  iprop((∃ K, records (acc2 m) K) ∗ atPos ER (barCell c) 0 ∅ 0 ∗ rights c ∗ payTok c ∗ credits c ∗ owesX c (O₀ c))

abbrev T₀ (c : Dev nD) : sProp 𝕄 := iprop(StableHlo.held (c : Thread nD τ) (Pipeline.ucRefs τ sig) (V0 m c) ∗ ride m c)

/-- A device's part at the launch, less the protocol's ghost state. -/
def bundle (c : Dev nD) : sProp 𝕄 :=
  iprop(StableHlo.held (c : Thread nD τ) (Pipeline.ucRefs τ sig) (V0 m c) ∗ credits c ∗ owesX c (O₀ c))

theorem T₀_intro (K : GSem nD τ sig → ℕ) (c : Dev nD) :
    iprop(records (acc2 m) K ∗ ((atPos ER (barCell c) 0 ∅ 0 ∗ rights c ∗ payTok c) ∗ bundle m c)) ⊢ T₀ m c := by
  unfold bundle T₀ ride
  iintro ⟨#HR, ⟨Ha, Ho, Ht⟩, Hh, Hc, HO⟩
  isplitl [Hh]; · iexact Hh
  isplitr; · iexists K; iexact HR
  isplitl [Ha]; · iexact Ha
  isplitl [Ho]; · iexact Ho
  isplitl [Ht]; · iexact Ht
  isplitl [Hc] <;> iassumption

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem part (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(bundle m c ∗ (semVal (barCell c) 0 ∗ parked c)) : sProp 𝕄) := by
  rw [show unscopedBufs c (fun b => m ((c : Thread nD τ).loc b)) = StableHlo.held (c : Thread nD τ) (Pipeline.ucRefs τ sig) (V0 m c) from
    Pipeline.unscopedBufs_held (Ix := Unit) (Name := ℕ) (U := UU) (Lvl := ℕ) c (V0 m c), unscopedSems0_eq]
  unfold bundle owesX
  iintro ⟨Hh, Hus, HO, Hcr, Hp, HG⟩
  isplitl [Hh HO Hcr]
  · isplitl [Hh]; · iexact Hh
    isplitl [Hcr]; · iapply (creds (F := F) c); iexact Hcr
    iexists ∅; iexact HO
  isplitl [Hus] <;> iassumption

theorem parts : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ parked c))
    ⊢ (bigSep Finset.univ fun c : Dev nD => iprop(bundle m c ∗ (semVal (barCell c) 0 ∗ parked c)) : sProp 𝕄) :=
  bigSep_mono fun c _ => part m ρ c

theorem bar_vals : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm

theorem bar_pos : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))

theorem sc_rights : bigSep scCells (fun g => (openTok ER g : sProp 𝕄)) ⊢ bigSep Finset.univ (fun c : Dev nD => (rights c : sProp 𝕄)) :=
  Entails.of_eq (by
    unfold scCells rights
    rw [bigSep_map, bigSep_univ_prod]
    exact bigSep_congr fun c _ => by rw [bigSep_univ_sum]; rfl)

theorem split_all (Φ Ψ : Dev nD → sProp 𝕄) :
    bigSep Finset.univ (fun c => iprop(Φ c ∗ Ψ c)) ⊢ iprop(bigSep Finset.univ Φ ∗ bigSep Finset.univ Ψ) := Entails.of_eq (bigSep_sep' _ _ _)
theorem join_all (Φ Ψ : Dev nD → sProp 𝕄) :
    iprop(bigSep Finset.univ Φ ∗ bigSep Finset.univ Ψ) ⊢ bigSep Finset.univ (fun c => iprop(Φ c ∗ Ψ c)) := Entails.of_eq (bigSep_sep' _ _ _).symm

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  iintro ⟨H, -⟩
  ihave H' := (parts m ρ) $$ H
  ihave H2 := (split_all _ _) $$ H'; icases H2 with ⟨HB, H3⟩
  ihave H4 := (split_all _ _) $$ H3; icases H4 with ⟨Hv, HG⟩
  ihave Hu := (Entails.of_eq (parked_all (F := F))) $$ HG
  imod (Rounds.fund_launch ER (rd (acc2 m)) disjoint_cells (fun g _ h => h) toks) $$ [Hv Hu] with ⟨%K, -, #Hinv, #Hr, Hat, Hopen, Htok⟩
  · isplitl [Hv]
    · iapply bar_vals $$ Hv
    · iexact Hu
  imodintro
  iapply (bigSep_with_persistent (R := records (acc2 m) K)
    (Φ := fun c => iprop((atPos ER (barCell c) 0 ∅ 0 ∗ rights c ∗ payTok c) ∗ bundle m c)) fun c _ => T₀_intro m K c)
  isplitr
  · unfold records
    isplitr; · iexact Hinv
    iexact Hr
  iapply (join_all _ _)
  isplitr [HB]
  · iapply (join_all _ _); isplitl [Hat]; · iapply bar_pos $$ Hat
    iapply (join_all _ _); isplitl [Hopen]; · iapply sc_rights $$ Hopen
    iapply (toks_dealt (F := F)); iexact Htok
  · iexact HB

/-! ## The copy cells opened, at the region's entry -/

theorem open_one (K : GSem nD τ sig → ℕ) (g : GSem nD τ sig) (hg : g ∈ barCells ∪ scCells) :
    iprop(records (acc2 m) K ∗ (openTok ER g ∗ semVal g 0)) ⊢ (|={Set.univ}=> (atPos ER g 0 ∅ 0 ∗ reached ER g 0) : sProp 𝕄) := by
  unfold records
  iintro ⟨⟨#HI, -⟩, Ho, Hs⟩
  iapply (Rounds.cell_open ER (rd (acc2 m)) (g := g) (Set.mem_univ (K g)))
  isplitr; · iapply (inv_at (acc2 m) K g hg); iexact HI
  isplitl [Ho] <;> iassumption

theorem open_seven (K : GSem nD τ sig → ℕ) (cell : Fin 7 → GSem nD τ sig) (hg : ∀ s, cell s ∈ barCells ∪ scCells) :
    iprop(records (acc2 m) K ∗ ((bigSep Finset.univ fun s => openTok ER (cell s)) ∗ bigSep Finset.univ fun s => semVal (cell s) 0))
      ⊢ (|={Set.univ}=> ((bigSep Finset.univ fun s => atPos ER (cell s) 0 ∅ 0) ∗ bigSep Finset.univ fun s => reached ER (cell s) 0) : sProp 𝕄) := by
  rw [← bigSep_sep', ← bigSep_sep']
  exact (bigSep_with_persistent fun s _ => open_one m K (cell s) (hg s)).trans (BI.bigSep_fupd _ _)

theorem ownSems0_two (c : Dev nD) : (Pipeline.ownSems0 osem c : sProp 𝕄)
    = iprop((bigSep Finset.univ fun s : Fin 7 => semVal (sendCell s c) 0) ∗ bigSep Finset.univ fun s : Fin 7 => semVal (recvCell s c) 0) := by
  unfold Pipeline.ownSems0
  rw [bigSep_univ_sum]
  rfl

/-- The region's entry: the copy cells open, and the device has what the body starts from. -/
theorem enter (c : Dev nD) : iprop(ride m c ∗ Pipeline.ownSems0 osem c ∗ levAts L lv)
    ⊢ (|={Set.univ}=> (((∃ K, records (acc2 m) K) ∗ start c) ∗ owesX c (O₀ c)) : sProp 𝕄) := by
  rw [ownSems0_two]
  unfold ride rights payTok credits
  iintro ⟨⟨⟨%K, #HR⟩, Ha, ⟨HoS, HoV⟩, ⟨HtB, HtS, HtV⟩, ⟨HcB, HcV⟩, HO⟩, ⟨HsS, HsV⟩, #Hlev⟩
  imod (open_seven m K (fun s => sendCell s c) fun s => Finset.mem_union_right _ (mem_send s c)) $$ [HoS HsS] with ⟨HaS, HrS⟩
  · isplitr; · iexact HR
    isplitl [HoS] <;> iassumption
  imod (open_seven m K (fun s => recvCell s c) fun s => Finset.mem_union_right _ (mem_recv s c)) $$ [HoV HsV] with ⟨HaV, HrV⟩
  · isplitr; · iexact HR
    isplitl [HoV] <;> iassumption
  imodintro
  isplitr [HO]
  · isplitr; · iexists K; iexact HR
    unfold start left
    isplitr; · iexact Hlev
    isplitl [HtB]; · iexact HtB
    isplitl [HrV]; · iexact HrV
    isplitl [HcB]; · iexact HcB
    isplitl [Ha]; · iexact Ha
    isplitl [HtS]; · iexact HtS
    isplitl [HtV]; · iexact HtV
    isplitl [HrS]; · iexact HrS
    isplitl [HcV]; · iexact HcV
    isplitl [HaS] <;> iassumption
  · iexact HO

end Cert.AllReduce

end
-- ==== Proof.Run.lean ====
/-
# The run

The region's record from the body's obligation, and the whole program's run: the arguments end as launched, the result is the
total of the eight devices' sums, and every counter reads zero.
-/
module

public import proofs.«01_k».proof.Proof.Launch
public import Idealize.ShloMosaic.Lib.Pipeline.ValueKit.Geometry

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays around the region -/

theorem share_full (c : Dev nD) (w : Fin 3) : (dats m 0 c).share w = fullShare := by
  fin_cases w <;> rfl

/-- What the device's argument and result arrays hold at the end. -/
def finArr (c : Dev nD) (w : Fin 3) : Buf (Elt F) ((spec0 w).arr.view.loc (c.tc : Thread nD τ)) :=
  match w with
  | ⟨0, _⟩ => m ((c : Thread nD τ).loc main_arg0)
  | ⟨1, _⟩ => m ((c : Thread nD τ).loc main_arg1)
  | ⟨2, _⟩ => total m c
  | ⟨_ + 3, h⟩ => absurd h (Nat.not_lt.2 (Nat.le_add_left _ _))

theorem whole_out (c : Dev nD) : ((cfgC (F := F) c).win (2 : Fin 3)).WholeAt t0_1 := by
  refine ⟨rfl, fun t h => ?_, fun a => ?_⟩
  · rcases fin_N0 t with rfl | rfl
    · exact absurd h (by rw [show ((cfgC (F := F) c).win (2 : Fin 3)).flush t0_0 = false from rfl]; decide)
    · rfl
  · fin_cases a <;> exact ⟨rfl, rfl⟩

theorem arr_out (c : Dev nD) : (dats m 0 c).arrAt (2 : Fin 3) (cfgC (F := F) c).N = total m c :=
  (dats m 0 c).arrAt_eq_of_after_last (2 : Fin 3) t0_1 (whole_out c) (total m c) (fun j => rfl)

theorem arr_fin (c : Dev nD) (w : Fin 3) : (dats m 0 c).arrAt w (cfgC (F := F) c).N = finArr m c w := by
  fin_cases w
  · exact (dats m 0 c).arrAt_in (0 : Fin 3) rfl _
  · exact (dats m 0 c).arrAt_in (1 : Fin 3) rfl _
  · exact arr_out m c

/-- The table's buffer at the region's entry. -/
theorem table_held (c : Dev nD) : (fun k => V1 m c (pre0.ref k)) = (adm (F := F) c 0).1 := by
  funext k
  obtain rfl : k = 0 := Subsingleton.elim k 0
  exact V1_table m c

/-- The argument no window reads. -/
def spare (c : Dev nD) : sProp 𝕄 := ((c : Thread nD τ).loc main_arg2) ↦{fullShare} (V1 m c main_arg2)

theorem entry_arrays (c : Dev nD) : (StableHlo.held (c : Thread nD τ) (Pipeline.ucRefs τ sig) (V1 m c) : sProp 𝕄)
    ⊢ iprop((dats m 0 c).arrays ((dats m 0 c).arrAt · 0)
      ∗ Pipeline.prefHeld pre0 c (fun _ => fullShare) (adm (F := F) c 0).1 ∗ spare m c) := by
  rw [← Pipeline.unscopedBufs_held (Ix := Unit) (Name := ℕ) (U := UU) (Lvl := ℕ) c (V1 m c)]
  refine (Pipeline.PerCore.arrays_of_unscopedBufs (pcfgs (F := F)) adm (dats m) (p := 0) winFacts0 arr_whole0 c (share_full m c)
    (fun b => V1 m c b) (fun w => ?_)).trans ?_
  · fin_cases w
    · exact (V1_of m c main_arg0 (by decide)).symm
    · exact (V1_of m c main_arg1 (by decide)).symm
    · exact (V1_of m c main_v12 (by decide)).symm
  · refine sep_mono_right ?_
    refine (Entails.of_eq (Pipeline.unscopedRest_split preFacts0 c (fun b => V1 m c b))).trans ?_
    rw [unscopedRestP0_eq, table_held]
    unfold spare
    iintro ⟨Hp, Ha, -⟩
    isplitl [Hp] <;> iassumption

theorem acc_whole (c : Dev nD) (f : Vec F S2x2048 .f32) :
    (accAt c fullShare f : sProp 𝕄) = (((c : Thread nD τ).loc cc0_scratch0) ↦{fullShare} f) :=
  congrArg (fun S => (((c : Thread nD τ).loc cc0_scratch0) ↦[S]{fullShare} f : sProp 𝕄)) (View.set_whole cc0_scratch0)

theorem scratch_in (c : Dev nD) : (Pipeline.scopedRest spec0 c : sProp 𝕄) ⊢ iprop((∃ f, accAt c fullShare f) ∗ commAny c) := by
  rw [scopedRest0_eq]
  iintro ⟨⟨%f, H⟩, Hc⟩
  isplitl [H]
  · iexists f; iapply (Entails.of_eq (acc_whole c f).symm); iexact H
  iexact Hc

theorem scratch_out (c : Dev nD) : iprop((∃ f, accAt c fullShare f) ∗ commAny c) ⊢ (Pipeline.scopedRest spec0 c : sProp 𝕄) := by
  rw [scopedRest0_eq]
  iintro ⟨⟨%f, H⟩, Hc⟩
  isplitl [H]
  · iexists f; iapply (Entails.of_eq (acc_whole c f)); iexact H
  iexact Hc

/-! ## The region -/

theorem own_facts : Pipeline.OwnSemFacts spec0 osem := by decide

theorem stage_low : ∀ (w : Fin 3) (s : Fin (spec0 w).nbuf), ((spec0 w).sem s).val < 12 := by decide

theorem owed_cases (c : Dev nD) (t : Fin ((cfgC (F := F) c).N + 1)) :
    (dats m 0 c).owed t = O₀ c ∨ (dats m 0 c).owed t = owedR c 0 ∨ (dats m 0 c).owed t = 0 := by
  obtain ⟨t, ht⟩ := t
  match t, ht with
  | 0, _ => exact .inl rfl
  | 1, _ => exact .inr (.inl rfl)
  | _ + 2, _ => exact .inr (.inr rfl)

theorem waits (c : Dev nD) : (levAts L lv : sProp 𝕄) ⊢ Pipeline.PerCore.cellsWaits (Pipeline.pinD (pcfgs (F := F)) adm) (dats m) () 0 c :=
  Pipeline.PerCore.cellsWaits_intro (Pipeline.pinD (pcfgs (F := F)) adm) (dats m) () 0 c fun w s t =>
    mayWait_stage c _ (stage_low w s) _ (owed_cases m c t)

/-- What the device holds after the region. -/
abbrev Tₙ (c : Dev nD) : sProp 𝕄 := iprop((dats m 0 c).arrays (finArr m c) ∗ spare m c ∗ semVal (barCell c) 0)

theorem last_Φ (c : Dev nD) : (dats m 0 c).Φ (Fin.last (cfgC (F := F) c).N) = Φ₂ c := rfl
theorem last_owed (c : Dev nD) : (dats m 0 c).owed (Fin.last (cfgC (F := F) c).N) = 0 := rfl

theorem region_entry (c : Dev nD) :
    iprop((StableHlo.held (c : Thread nD τ) (Pipeline.ucRefs τ sig) (V1 m c) ∗ ride m c) ∗ Pipeline.ownSems0 osem c ∗ levAts L lv)
      ⊢ (|={Set.univ}=> iprop((dats m 0 c).arrays ((dats m 0 c).arrAt · 0)
        ∗ Pipeline.prefHeld pre0 c (fun _ => fullShare) (adm (F := F) c 0).1
        ∗ (dats m 0 c).owesAt () 0 ∗ ((∃ K, records (acc2 m) K) ∗ start c) ∗ spare m c) : sProp 𝕄) := by
  iintro ⟨⟨Hh, Hr⟩, Hs, Hl⟩
  imod (enter m c) $$ [Hr Hs Hl] with ⟨HX, HO⟩
  · isplitl [Hr]; · iexact Hr
    isplitl [Hs] <;> iassumption
  ihave Ha := (entry_arrays m c) $$ Hh
  icases Ha with ⟨Ha, Hp, Hz⟩
  imodintro
  isplitl [Ha]; · iexact Ha
  isplitl [Hp]; · iexact Hp
  isplitl [HO]; · iapply (owesAt_in m c 0 (O₀ c) rfl); iexact HO
  isplitl [HX] <;> iassumption

theorem region_in (c : Dev nD) :
    iprop(((∃ K, records (acc2 m) K) ∗ start c) ∗ Pipeline.prefHeld pre0 c (fun _ => fullShare) (adm (F := F) c 0).1
      ∗ Pipeline.scopedRest spec0 c) ⊢ (Φ₀ m c : sProp 𝕄) := by
  unfold Φ₀
  iintro ⟨⟨HR, Hs⟩, -, Hc⟩
  ihave Hc := (scratch_in c) $$ Hc
  icases Hc with ⟨Ha, Hc⟩
  isplitl [HR]; · iexact HR
  isplitl [Hs]; · iexact Hs
  isplitl [Ha] <;> iassumption

theorem region_out (c : Dev nD) :
    (Φ₂ c : sProp 𝕄) ⊢ iprop(semVal (barCell c) 0 ∗ Pipeline.ownSems0 osem c ∗ Pipeline.scopedRest spec0 c) := by
  rw [ownSems0_two]
  unfold Φ₂
  iintro ⟨Hb, HS, HV, Hc, Ha⟩
  isplitl [Hb]; · iexact Hb
  isplitl [HS HV]; · isplitl [HS] <;> iassumption
  iapply (scratch_out (F := F) c)
  isplitl [Ha] <;> iassumption

theorem region_exit (c : Dev nD) :
    iprop((dats m 0 c).arrays ((dats m 0 c).arrAt · (cfgC (F := F) c).N) ∗ (dats m 0 c).owesAt () (Fin.last (cfgC (F := F) c).N)
      ∗ semVal (barCell c) 0 ∗ spare m c)
      ⊢ (|={Set.univ}=> iprop(Tₙ m c ∗ ∃ W, owes (c : Thread nD τ) (0 : CellTallies nD τ sig Unit) W) : sProp 𝕄) := by
  rw [show ((dats m 0 c).arrAt · (cfgC (F := F) c).N) = finArr m c from funext (arr_fin m c)]
  iintro ⟨Ha, HO, Hb, Hz⟩
  imodintro
  isplitr [HO]
  · isplitl [Ha]; · iexact Ha
    isplitl [Hz] <;> iassumption
  ihave HO := (owesAt_out m c (Fin.last (cfgC (F := F) c).N) 0 (last_owed m c)) $$ HO
  unfold owesX
  iexact HO

set_option backward.isDefEq.respectTransparency.types false in
/-- The kernel's region. -/
def region : Pipeline.PerCore.RegionSeg (pcfgs (F := F)) adm (dats m) () defs₀ 𝒱₀ L lv 0 where
  win := winFacts0.to₀
  block_pos := block_pos0
  stage_whole := stage_whole0
  K := Fin 7 ⊕ Fin 7
  osem := osem
  ho := own_facts
  hbody c := (body_obligation m c).loose
  hwaits c := waits m c
  pre c := iprop(StableHlo.held (c : Thread nD τ) (Pipeline.ucRefs τ sig) (V1 m c) ∗ ride m c)
  post c := iprop(Tₙ m c ∗ ∃ W, owes (c : Thread nD τ) (0 : CellTallies nD τ sig Unit) W)
  X c := iprop((∃ K, records (acc2 m) K) ∗ start c)
  Y c := semVal (barCell c) 0
  Z c := spare m c
  hentry c := region_entry m c
  hin c := region_in m c
  hout c := region_out c
  hexit c := region_exit m c

/-- @main on a device: the host operations, then the region. -/
abbrev items (c : Dev nD) : List (Pipeline.PerCore.Seg (pcfgs (F := F)) adm (dats m) () defs₀ 𝒱₀ L lv) :=
  [.host (seg0 m 𝒱₀ L lv (fun _ => ride m) c), .region (region m)]

theorem unscoped_eq : ∀ sm : SemLoc sig, sm.isScoped .tc = false → sm = .reg barS := by decide

/-- What is read of a final state on a device. -/
def seen (c : Dev nD) (s : MemSt nD τ sig (Elt F)) : Prop :=
  ((∀ w : Fin 3, s.mem ((spec0 w).arr.view.loc (c.tc : Thread nD τ)) = finArr m c w)
    ∧ s.mem ((c : Thread nD τ).loc main_arg2) = m ((c : Thread nD τ).loc main_arg2)) ∧ s.sem (barCell c) = 0

theorem read_end (c : Dev nD) (s' : Phys nD τ sig (Elt F)) :
    iprop(Tₙ m c ∗ SI s') ⊢ (|={Set.univ}=> iprop(⌜seen m c s'.mem⌝ ∗ SI s') : sProp 𝕄) := by
  iintro ⟨⟨Ha, Hz, Hb⟩, HSI⟩
  ihave H := (Pipeline.PerCore.arrays_read (pcfgs (F := F)) adm (dats m) (p := 0) arr_whole0 c (share_full m c) (finArr m c) s') $$ [Ha HSI]
  · isplitl [Ha] <;> iassumption
  icases H with ⟨%ha, HSI⟩
  unfold spare
  icombine HSI Hz gives %hz
  icombine HSI Hb gives %hb
  imodintro
  isplitr
  · ipureintro
    exact ⟨⟨ha, (Buf.eq_of_forall_mem_univ hz).trans (V1_of m c main_arg2 (by decide))⟩, by simpa using hb⟩
  iexact HSI

set_option backward.isDefEq.respectTransparency.types false in
/-- The run: every weakly fair execution ends with the arguments as launched, the result the total, the counters zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v12) = total m c) ∧ r.2.sem = fun _ => 0) :=
  Pipeline.PerCore.θ_run_regions_kit_sems (pcfgs (F := F)) adm (dats m) () cell_injective EP defs₀ 𝒱₀ L lv m ρ main (items m)
    (fun c Q => by
      rewrite [main_chain c, Pipeline.PerCore.Seg.run_eq_chain,
        show (items m c).map Pipeline.PerCore.Seg.prog = [
          StableHlo.seq (hostOps0 c),
          Prog.lift (.customCall (Pipeline.entry 0) ()) ] from rfl]
      dsimp (config := { failIfUnchanged := false }) only
      exact .rfl)
    (fun c => by simp only [items, Pipeline.PerCore.Seg.pipes_host, Pipeline.PerCore.Seg.pipes_region, Pipeline.PerCore.Seg.pipes_nil]; decide)
    O₀ L_of_ne parked u₀ fund_all
    (T₀ := T₀ m) (Tₙ := Tₙ m)
    (hch := fun c => ⟨.rfl, .rfl, .rfl⟩)
    (hinit := deal m ρ)
    (QY := seen m)
    (hfin := fun c s' => read_end m c s')
    (hQ := fun s h hs => ⟨fun c => ⟨⟨(h c).1.1 0, (h c).1.1 1, (h c).1.2⟩, (h c).1.1 2⟩,
      sem_eq_zero hs fun c sm hsm => by
        obtain rfl := unscoped_eq sm hsm
        exact (h c).2⟩)

end Cert.AllReduce

end
-- ==== Proof.Same.lean ====
/-
# One text, two names

The printed program and its idealization have the same text, so at the same float values their body tables and their host code
are equal; a run of the one is a run of the other.
-/
module

public import proofs.«01_k».proof.Kernel
public import proofs.«01_k».proof.Proof.Gen.Kernel
public import proofs.«01_k».proof.Proof.Run

@[expose] public section

noncomputable section

namespace Cert.AllReduce

open Idealize.ShloMosaic Idealize.SL.Sem

theorem table_same : @Cert.Kernel.defs₀ Bits _ _ = @Cert.KernelIdeal.defs₀ Bits _ _ := by
  unfold Cert.Kernel.defs₀ Cert.KernelIdeal.defs₀
  refine congrArg (Defs.onTc (nD := Cert.KernelIdeal.nD) (τ := Cert.KernelIdeal.τ) (sig := Cert.KernelIdeal.sig)
    (Λ := Cert.KernelIdeal.Λ₀)) (funext fun l => funext fun a => ?_)
  match l, a with
  | 0, (t, s) => exact rfl
  | ⟨n + 1, h⟩, _ => exact absurd h (Nat.not_lt.2 (Nat.le_add_left _ _))

theorem defs_same : @Cert.Kernel.defs Bits _ _ = @Cert.KernelIdeal.defs Bits _ _ :=
  congrArg (Pipeline.defs (@Cert.KernelIdeal.pcfgs Bits _ _)) table_same

set_option maxHeartbeats 1000000 in
theorem main_same : @Cert.Kernel.main Bits _ _ = @Cert.KernelIdeal.main Bits _ _ := by exact rfl

section
open Cert.KernelIdeal
variable {Λ : Labels} {d d' : Defs nD τ sig (Elt Bits) Λ} {p p' : Dev nD → Prog (TpuEff nD τ sig (Elt Bits) Λ .tc) PUnit}

theorem run_same (hd : d = d') (hp : p = p') {s : MemSt nD τ sig (Elt Bits)} {P : _ → Prop}
    (h : θ_run d' (onTc (τ := τ) p') s P) : θ_run d (onTc (τ := τ) p) s P := by
  subst hd hp
  exact h

end

end Cert.AllReduce

end
-- ==== Proof.Rows.lean ====
/-
# A row's share

What one row of `x` and of `dy` adds to the two sums, over extended reals, and both programs' texts read as sums of rows: a block's
step in the kernel, and the whole arrays in the reference. The kernel multiplies by the reciprocal root, the reference by one over
the root; they agree because a mean of squares plus a positive number is positive.
-/
module

public import proofs.«01_k».proof.Proof.Region
public import proofs.«01_k».proof.Proof.Gen.ReferenceIdeal.Run
public import Idealize.ShloMosaic.Lib.Pointwise

@[expose] public section

noncomputable section

namespace Cert.AllReduce

open Idealize.ShloMosaic

/-! ## One row -/

/-- The row's length, as both texts write it. -/
def len : EReal := Ideal.ofBits .f32 0x45000000#32
/-- What is added to the variance. -/
def eps : EReal := Ideal.ofBits .bf16 0x3728#16

theorem len_val : len = ((2048 : ℝ) : EReal) := by
  simp [len, Ideal.ofBits, Ideal.ieee, -EReal.coe_mul]; norm_num

theorem eps_val : eps = ((168 / 2 ^ 24 : ℝ) : EReal) := by
  simp [eps, Ideal.ofBits, Ideal.ieee, -EReal.coe_mul]; norm_num

theorem eps_pos : 0 < eps := by
  rw [eps_val]
  exact_mod_cast (by norm_num : (0 : ℝ) < 168 / 2 ^ 24)

theorem len_pos : 0 < len := by
  rw [len_val]
  exact_mod_cast (by norm_num : (0 : ℝ) < 2048)

/-- The reference divides by the length less zero. -/
theorem len_less : len - (FloatOps.sitofp FTy.f32 0#32 : Ideal .f32) = len := by
  rw [show (FloatOps.sitofp FTy.f32 0#32 : Ideal .f32) = 0 by simp [FloatOps.sitofp], sub_zero]

def mu (x : Fin 2048 → EReal) : EReal := Ideal.div (∑ k, x k) len
def var (x : Fin 2048 → EReal) : EReal := Ideal.div (∑ k, (x k - mu x) * (x k - mu x)) len
def xhat (x : Fin 2048 → EReal) (k : Fin 2048) : EReal := (x k - mu x) * Ideal.rsqrt (var x + eps)

/-- What the row adds at column `k`: to the sum for gamma, then to the sum for beta. -/
def share (p : Fin 2) (x d : Fin 2048 → EReal) (k : Fin 2048) : EReal := if p = 0 then d k * xhat x k else d k

theorem square_nonneg (x : EReal) : 0 ≤ x * x := by
  induction x with
  | bot => simp
  | top => simp
  | coe r => exact_mod_cast mul_self_nonneg r

theorem div_len_nonneg {s : EReal} (h : 0 ≤ s) : 0 ≤ Ideal.div s len := by
  rw [len_val, Ideal.div_coe (by norm_num)]
  exact mul_nonneg h (by exact_mod_cast (by norm_num : (0 : ℝ) ≤ 1 / 2048))

theorem var_nonneg (x : Fin 2048 → EReal) : 0 ≤ var x :=
  div_len_nonneg (Finset.sum_nonneg fun k _ => square_nonneg _)

theorem root_pos {y : EReal} (h : 0 < y) : Ideal.div 1 (Ideal.sqrt y) = Ideal.rsqrt y := by
  induction y with
  | bot => exact absurd h (by simp)
  | top => rw [Ideal.sqrt_top, Ideal.rsqrt_top]; simp [Ideal.div]
  | coe r =>
    have hr : 0 < r := by exact_mod_cast h
    have hs : Real.sqrt r ≠ 0 := (Real.sqrt_pos.mpr hr).ne'
    rw [Ideal.sqrt_coe, Ideal.rsqrt_coe, if_neg hr.not_gt, if_neg hr.not_gt, if_neg hr.ne', Ideal.div_coe hs, one_mul, one_div]

theorem root_var (x : Fin 2048 → EReal) : Ideal.div 1 (Ideal.sqrt (var x + eps)) = Ideal.rsqrt (var x + eps) :=
  root_pos (by rw [add_comm]; exact EReal.add_pos_of_pos_of_nonneg eps_pos (var_nonneg x))

/-- The reference's spelling of a row's share for gamma. -/
theorem over_root (x d : Fin 2048 → EReal) (k : Fin 2048) :
    d k * ((x k - mu x) * Ideal.div 1 (Ideal.sqrt (var x + eps))) = share 0 x d k := by
  rw [root_var]
  rfl

/-! ## A block's step in the kernel -/

section
open Cert.KernelIdeal Cert.KernelIdeal.Gen

set_option maxRecDepth 16384 in
theorem step_gamma (X Y : Vec Ideal S512x2048 .bf16) (a : Vec Ideal S2x2048 .f32) (k : Fin 2048) :
    stepF X Y a (ix2 0 k) = a (ix2 0 k) + ∑ r : Fin 512, share 0 (fun l => X (ix2 r l)) (fun l => Y (ix2 r l)) k := by
  unfold stepF
  pointwise [k0_pay1, k0_pay4, k0_pay5, k0_pay6]
  rfl

set_option maxRecDepth 16384 in
theorem step_beta (X Y : Vec Ideal S512x2048 .bf16) (a : Vec Ideal S2x2048 .f32) (k : Fin 2048) :
    stepF X Y a (ix2 1 k) = a (ix2 1 k) + ∑ r : Fin 512, share 1 (fun l => X (ix2 r l)) (fun l => Y (ix2 r l)) k := by
  unfold stepF
  pointwise [k0_pay1, k0_pay4, k0_pay5, k0_pay6]
  rfl

end

/-! ## The whole arrays in the reference -/

section
open Cert.ReferenceIdeal Cert.ReferenceIdeal.Gen Idealize.ShloMosaic.TcCoe Idealize.SL.Sem

/-- The two sums over every row. -/
def whole (X D : Vec Ideal S8192x2048 .bf16) : Vec Ideal S2x2048 .f32 :=
  fun j => ∑ r : Fin 8192, share (j 0) (fun l => X (ix2 r l)) (fun l => D (ix2 r l)) (j 1)

set_option maxRecDepth 16384 in
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  clear h
  generalize (m ((c.tc : Thread nD τ).loc main_arg0)) = X
  generalize (m ((c.tc : Thread nD τ).loc main_arg1)) = D
  funext j
  obtain ⟨p, k, rfl⟩ : ∃ (p : Fin 2) (k : Fin 2048), j = ix2 p k := ⟨j 0, j 1, eq_ix2 j⟩
  fin_cases p
  · pointwise
    rw [show Ideal.ofBits FTy.f32 0x45000000#32 - FloatOps.sitofp FTy.f32 0#32 = len from len_less]
    simp only [if_pos len_pos]
    exact Finset.sum_congr rfl fun x _ => over_root (fun l => X (ix2 x l)) (fun l => D (ix2 x l)) k
  · pointwise
    rfl

end

end Cert.AllReduce

end
-- ==== Proof.Value.lean ====
/-
# The value

The total every device stores is the two sums over all rows: a device sums its two blocks of 512 rows, the eight devices' sums are
added in each device's own order, and the blocks of the eight devices are the rows of the whole arrays, each once.
-/
module

public import proofs.«01_k».proof.Proof.Rows

@[expose] public section

noncomputable section

namespace Cert.AllReduce

open Cert.KernelIdeal Cert.KernelIdeal.Gen
open Idealize.ShloMosaic
open Idealize.ShloMosaic.TcCoe

variable (m : (ℓ : Loc nD τ sig) → Buf (Elt Ideal) ℓ)

/-! ## A device's sums -/

/-- Row `r` of a device's array. -/
def rowOf (X : Vec Ideal S4096x2048 .bf16) (r : Fin 4096) : Fin 2048 → EReal := fun l => X (at2 r l)

theorem step_at (X Y : Vec Ideal S512x2048 .bf16) (a : Vec Ideal S2x2048 .f32) (p : Fin 2) (k : Fin 2048) :
    stepF X Y a (ix2 p k) = a (ix2 p k) + ∑ r : Fin 512, share p (fun l => X (ix2 r l)) (fun l => Y (ix2 r l)) k := by
  fin_cases p
  · exact step_gamma X Y a k
  · exact step_beta X Y a k

theorem acc_at (c : Dev nD) (p : Fin 2) (k : Fin 2048) :
    acc2 m c (ix2 p k)
      = ∑ i : Fin 2, ∑ r : Fin 512, share p (rowOf (xArr m c) (rowC c i r)) (rowOf (dArr m c) (rowC c i r)) k := by
  have hz : k0_pay2 (F := Ideal) (ix2 p k) = 0 := by pointwise [k0_pay2]
  unfold acc2 acc1
  rw [step_at, step_at, hz, zero_add, Fin.sum_univ_two]
  rfl

theorem around_sum (f : Dev nD → EReal) (c : Dev nD) :
    f c + f (pe 0 c) + f (pe 1 c) + f (pe 2 c) + f (pe 3 c) + f (pe 4 c) + f (pe 5 c) + f (pe 6 c) = ∑ e : Dev nD, f e := by
  rw [show (∑ e : Dev nD, f e) = ∑ e : Fin 8, f e from rfl, Fin.sum_univ_eight]
  fin_cases c
  · show f 0 + f 1 + f 2 + f 3 + f 4 + f 5 + f 6 + f 7 = _
    ac_rfl
  · show f 1 + f 0 + f 3 + f 2 + f 5 + f 4 + f 7 + f 6 = _
    ac_rfl
  · show f 2 + f 3 + f 0 + f 1 + f 6 + f 7 + f 4 + f 5 = _
    ac_rfl
  · show f 3 + f 2 + f 1 + f 0 + f 7 + f 6 + f 5 + f 4 = _
    ac_rfl
  · show f 4 + f 5 + f 6 + f 7 + f 0 + f 1 + f 2 + f 3 = _
    ac_rfl
  · show f 5 + f 4 + f 7 + f 6 + f 1 + f 0 + f 3 + f 2 = _
    ac_rfl
  · show f 6 + f 7 + f 4 + f 5 + f 2 + f 3 + f 0 + f 1 = _
    ac_rfl
  · show f 7 + f 6 + f 5 + f 4 + f 3 + f 2 + f 1 + f 0 = _
    ac_rfl

theorem total_at (c : Dev nD) (j : S2x2048.Idx) : total m c j = ∑ e : Dev nD, acc2 m e j :=
  around_sum (fun e => acc2 m e j) c

/-! ## The devices' rows are the whole arrays' -/

/-- Row `r` of block `i` of device `e`, among all rows. -/
def glob (e : Fin 8) (i : Fin 2) (r : Fin 512) : Fin 8192 :=
  ⟨e.val % 2 * 4096 + (e.val / 2 * 1024 + i.val * 512 + r.val), by have := e.isLt; have := i.isLt; have := r.isLt; omega⟩

/-- Every row is one device's, in one of its two blocks. -/
def rowsEquiv : (Fin 8 × Fin 2) × Fin 512 ≃ Fin 8192 where
  toFun t := glob t.1.1 t.1.2 t.2
  invFun R := ((⟨R.val % 4096 / 1024 * 2 + R.val / 4096, by have := R.isLt; omega⟩, ⟨R.val % 1024 / 512, by omega⟩),
    ⟨R.val % 512, by omega⟩)
  left_inv := by
    rintro ⟨⟨e, i⟩, r⟩
    have := e.isLt; have := i.isLt; have := r.isLt
    refine Prod.ext (Prod.ext (Fin.ext ?_) (Fin.ext ?_)) (Fin.ext ?_) <;> simp only [glob] <;> omega
  right_inv R := by
    have := R.isLt
    refine Fin.ext ?_
    simp only [glob]
    omega

theorem sum_rows (f : Fin 8192 → EReal) : ∑ R, f R = ∑ e : Fin 8, ∑ i : Fin 2, ∑ r : Fin 512, f (glob e i r) := by
  rw [← Equiv.sum_comp rowsEquiv f, Fintype.sum_prod_type, Fintype.sum_prod_type]
  rfl

/-- The block of the whole array a device holds, per dimension. -/
abbrev cutOf (e : Dev nD) := Layout.meshBlock (n := nD) (r := 2) [2, 2, 2] ![[2], []] e

theorem cut_val : ∀ e : Dev nD, (cutOf e 0).val = e.val % 2 := by decide

theorem cut_cols : ∀ e : Dev nD, (cutOf e 1).val = 0 := by decide

/-- A device's row is a row of the whole array. -/
theorem row_whole (X : Vec Ideal ⟨2, ![8192, 2048]⟩ .bf16) (e : Dev nD) (i : Fin 2) (r : Fin 512) :
    rowOf (Layout.blockN ⟨2, ![4096, 2048]⟩ ⟨2, ![8192, 2048]⟩ (Layout.meshBlock [2, 2, 2] ![[2], []] e) X) (rowC e i r)
      = fun l => X (ix2 (glob e i r) l) := by
  funext l
  unfold rowOf
  rw [Layout.blockN_apply]
  refine congrArg X (funext fun a => Fin.ext ?_)
  rw [Layout.TilesN.idx_val]
  fin_cases a
  · show (cutOf e 0).val * 4096 + (rowC e i r).val = (glob e i r).val
    rw [cut_val]
    rfl
  · show (cutOf e 1).val * 2048 + l.val = l.val
    rw [cut_cols, zero_mul, zero_add]

/-- From devices holding their blocks of `X` and `D`, the total on every device is the two sums over all rows. -/
theorem total_whole (X D : Vec Ideal ⟨2, ![8192, 2048]⟩ .bf16)
    (hX : ∀ e : Dev nD, xArr m e = Layout.blockN ⟨2, ![4096, 2048]⟩ ⟨2, ![8192, 2048]⟩ (Layout.meshBlock [2, 2, 2] ![[2], []] e) X)
    (hD : ∀ e : Dev nD, dArr m e = Layout.blockN ⟨2, ![4096, 2048]⟩ ⟨2, ![8192, 2048]⟩ (Layout.meshBlock [2, 2, 2] ![[2], []] e) D)
    (c : Dev nD) : total m c = whole X D := by
  funext j
  obtain ⟨p, k, rfl⟩ : ∃ (p : Fin 2) (k : Fin 2048), j = ix2 p k := ⟨j 0, j 1, eq_ix2 j⟩
  rw [total_at, show whole X D (ix2 p k) = ∑ R : Fin 8192, share p (fun l => X (ix2 R l)) (fun l => D (ix2 R l)) k from rfl, sum_rows]
  refine Finset.sum_congr rfl fun e _ => ?_
  rw [acc_at, hX, hD]
  refine Finset.sum_congr rfl fun i _ => Finset.sum_congr rfl fun r _ => ?_
  rw [row_whole, row_whole]

end Cert.AllReduce

end
-- ==== Proof.lean ====
/-
# The claims

The three frames from the kernel's one run (written over any float values, so that the printed program takes its frame from the
idealized one's) and the reference's run; the pass rewrote nothing; the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem
open Cert.AllReduce (run_main reference_run total_whole whole run_same defs_same main_same)

theorem frame_kernel : Cert.quiescent_Kernel := fun m g _ =>
  run_same defs_same main_same
    ((θ_run Cert.KernelIdeal.defs _ _).mono (fun _ h => ⟨fun c => (h.1 c).1, h.2⟩) (run_main (F := Bits) m g))

theorem frame_ideal : Cert.quiescent_KernelIdeal := fun m g _ =>
  (θ_run Cert.KernelIdeal.defs _ _).mono (fun _ h => ⟨fun c => (h.1 c).1, h.2⟩) (run_main (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is the reference's. -/
theorem value : Cert.algebraic_KernelIdeal_ReferenceIdeal := fun m g m' g' _ hargs =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.trans (total_whole m _ _ (fun e => (hargs e).1) (fun e => (hargs e).2.1) c), (h.1 c).1⟩)
      (run_main (F := Ideal) m g),
    (θ_run Cert.ReferenceIdeal.defs _ _).mono (fun _ h => h 0) (reference_run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
